-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![3072, 1536]⟩ ⟨2, ![12288, 1536]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3072x1536 : Shape := ⟨2, ![3072, 1536]⟩
abbrev S1536x3072 : Shape := ⟨2, ![1536, 3072]⟩
abbrev S12288x3072 : Shape := ⟨2, ![12288, 3072]⟩
abbrev S1536x1536 : Shape := ⟨2, ![1536, 1536]⟩
abbrev S2x1536x1536 : Shape := ⟨3, ![2, 1536, 1536]⟩
abbrev S_ : Shape := ⟨0, ![]⟩
abbrev S3 : Shape := ⟨1, ![3]⟩
abbrev S1x1536x1536 : Shape := ⟨3, ![1, 1536, 1536]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S3072x1536, .f32⟩
  | .hbm, ⟨1, _⟩ => ⟨S1536x3072, .f32⟩
  | .hbm, ⟨2, _⟩ => ⟨S12288x3072, .f32⟩
  | .local _ .vmem, ⟨0, _⟩ => ⟨S1536x1536, .f32⟩
  | .local _ .vmem, ⟨1, _⟩ => ⟨S1536x3072, .bf16⟩
  | .local _ .vmem, ⟨2, _⟩ => ⟨S2x1536x1536, .bf16⟩
  | .local _ .vmem, ⟨3, _⟩ => ⟨S2x1536x1536, .bf16⟩
  | .local _ .vmem, ⟨4, _⟩ => ⟨S1536x3072, .f32⟩
  | _, _ => ⟨S3072x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_31 : BitVec 32 := 1#32
  let v41 : BitVec 32 := Scalar.muli v14 c1_i32_31
  let v42 : BitVec 32 := Scalar.addi c0_i32_32 v41
  v42.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_34 : BitVec 32 := 1#32
  let v43 : BitVec 32 := Scalar.muli v25 c1_i32_34
  let v44 : BitVec 32 := Scalar.addi c0_i32_35 v43
  v44.toNat
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_40 : BitVec 32 := 1#32
  let v45 : BitVec 32 := Scalar.muli v25 c1_i32_40
  let v46 : BitVec 32 := Scalar.addi c0_i32_41 v45
  v46.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_50 : BitVec 32 := 1#32
  let v55 : BitVec 32 := Scalar.muli v14 c1_i32_50
  let v56 : BitVec 32 := Scalar.addi c0_i32_51 v55
  v56.toNat
def k0_off1 (d0 : Dev nD) (c0_i32_72 : BitVec 32) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_71 : BitVec 32 := 4#32
  let v79 : BitVec 32 := Scalar.addi v2 c4_i32_71
  let v80 : BitVec 32 := Scalar.subi v79 c0_i32_72
  let c4_i32_73 : BitVec 32 := 4#32
  let c0_i32_74 : BitVec 32 := 0#32
  let v81 : BitVec 1 := Scalar.cmpi .eq c4_i32_73 c0_i32_74
  let c1_i32_75 : BitVec 32 := 1#32
  let v82 : BitVec 32 := Scalar.select v81 c1_i32_75 c4_i32_73
  let v83 : BitVec 32 := Scalar.remsi v80 v82
  let c0_i32_77 : BitVec 32 := 0#32
  let v85 : BitVec 1 := Scalar.cmpi .slt v83 c0_i32_77
  let c0_i32_78 : BitVec 32 := 0#32
  let v86 : BitVec 1 := Scalar.cmpi .slt v82 c0_i32_78
  let v87 : BitVec 1 := Scalar.xori v85 v86
  let c0_i32_76 : BitVec 32 := 0#32
  let v84 : BitVec 1 := Scalar.cmpi .ne v83 c0_i32_76
  let v88 : BitVec 1 := Scalar.andi v87 v84
  let v89 : BitVec 32 := Scalar.addi v83 v82
  let v90 : BitVec 32 := Scalar.select v88 v89 v83
  let c3072_i32 : BitVec 32 := 3072#32
  let v98 : BitVec 32 := Scalar.muli v90 c3072_i32
  let v99 : BitVec 32 := Scalar.addi v98 c0_i32_86
  let c0_i32_87 : BitVec 32 := 0#32
  ![v99.toNat, 0]
def k0_off1_at (r : Fin 4) : BitVec 32 × BitVec 32 :=
  if r.val < 2 then
    if r.val < 1 then
      (0#32, 0#32)
    else
      (1#32, 0#32)
  else
    if r.val < 3 then
      (2#32, 0#32)
    else
      (1#32, 1536#32)
def k0_off2 (d0 : Dev nD) (c0_i32_89 : BitVec 32) (c1536_i32_105 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v102 : BitVec 32 := Scalar.addi v2 c0_i32_89
  let c4_i32_90 : BitVec 32 := 4#32
  let c0_i32_91 : BitVec 32 := 0#32
  let v103 : BitVec 1 := Scalar.cmpi .eq c4_i32_90 c0_i32_91
  let c1_i32_92 : BitVec 32 := 1#32
  let v104 : BitVec 32 := Scalar.select v103 c1_i32_92 c4_i32_90
  let v105 : BitVec 32 := Scalar.remsi v102 v104
  let c0_i32_94 : BitVec 32 := 0#32
  let v107 : BitVec 1 := Scalar.cmpi .slt v105 c0_i32_94
  let c0_i32_95 : BitVec 32 := 0#32
  let v108 : BitVec 1 := Scalar.cmpi .slt v104 c0_i32_95
  let v109 : BitVec 1 := Scalar.xori v107 v108
  let c0_i32_93 : BitVec 32 := 0#32
  let v106 : BitVec 1 := Scalar.cmpi .ne v105 c0_i32_93
  let v110 : BitVec 1 := Scalar.andi v109 v106
  let v111 : BitVec 32 := Scalar.addi v105 v104
  let v112 : BitVec 32 := Scalar.select v110 v111 v105
  let c3072_i32_104 : BitVec 32 := 3072#32
  let v120 : BitVec 32 := Scalar.muli v112 c3072_i32_104
  let v121 : BitVec 32 := Scalar.addi v120 c1536_i32_105
  let c0_i32_106 : BitVec 32 := 0#32
  ![v121.toNat, 0]
def k0_off2_at (r : Fin 4) : BitVec 32 × BitVec 32 :=
  if r.val < 2 then
    if r.val < 1 then
      (0#32, 1536#32)
    else
      (1#32, 1536#32)
  else
    if r.val < 3 then
      (2#32, 1536#32)
    else
      (1#32, 0#32)
def k0_dev5 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_147 : BitVec 32 := 1#32
  let v152 : BitVec 32 := Scalar.muli v14 c1_i32_147
  let v153 : BitVec 32 := Scalar.addi c0_i32_148 v152
  v153.toNat
def k0_dev6 (d0 : Dev nD) : Nat :=
  let c0_i32_151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_150 : BitVec 32 := 1#32
  let v154 : BitVec 32 := Scalar.muli v25 c1_i32_150
  let v155 : BitVec 32 := Scalar.addi c0_i32_151 v154
  v155.toNat
def k0_dev7 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_158 : BitVec 32 := 1#32
  let v156 : BitVec 32 := Scalar.muli v25 c1_i32_158
  let v157 : BitVec 32 := Scalar.addi c0_i32_159 v156
  v157.toNat
def k0_dev8 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_168 : BitVec 32 := 1#32
  let v166 : BitVec 32 := Scalar.muli v14 c1_i32_168
  let v167 : BitVec 32 := Scalar.addi c0_i32_169 v166
  v167.toNat
def k0_dev9 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_251 : BitVec 32 := 1#32
  let v249 : BitVec 32 := Scalar.muli v14 c1_i32_251
  let v250 : BitVec 32 := Scalar.addi c0_i32_252 v249
  v250.toNat
def k0_dev10 (d0 : Dev nD) : Nat :=
  let c0_i32_255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_254 : BitVec 32 := 1#32
  let v251 : BitVec 32 := Scalar.muli v25 c1_i32_254
  let v252 : BitVec 32 := Scalar.addi c0_i32_255 v251
  v252.toNat
def k0_dev11 (d0 : Dev nD) : Nat :=
  let c0_i32_263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_262 : BitVec 32 := 1#32
  let v253 : BitVec 32 := Scalar.muli v25 c1_i32_262
  let v254 : BitVec 32 := Scalar.addi c0_i32_263 v253
  v254.toNat
def k0_dev12 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_272 : BitVec 32 := 1#32
  let v263 : BitVec 32 := Scalar.muli v14 c1_i32_272
  let v264 : BitVec 32 := Scalar.addi c0_i32_273 v263
  v264.toNat
-- ==== ReferenceIdeal.lean ====
abbrev S12288x1536 : Shape := ⟨2, ![12288, 1536]⟩
abbrev S1536x3072 : Shape := ⟨2, ![1536, 3072]⟩
abbrev S12288x3072 : Shape := ⟨2, ![12288, 3072]⟩

abbrev nBuf : Space → Nat
  | .hbm => 3
  | .vmem => 0
  | .smem => 0
  | _ => 0

abbrev bufTy : (tb : Table) → Fin (tcTables nBuf tb) → BufTy
  | .hbm, ⟨0, _⟩ => ⟨S12288x1536, .f32⟩
  | .hbm, ⟨1, _⟩ => ⟨S1536x3072, .f32⟩
  | .hbm, ⟨2, _⟩ => ⟨S12288x3072, .f32⟩
  | _, _ => ⟨S12288x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.RingIdeal.Ring.lean ====
/-
  The ring of four devices: who is next to whom, which buffers and semaphores the kernel names, and the values that
  travel. Direction `false` is the stream that moves to the right neighbour (buffer `cc0_scratch2`), direction `true`
  the stream that moves to the left neighbour (buffer `cc0_scratch3`); both streams run the same protocol.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.VecWindow
public import Idealize.ShloMosaic.Lib.ViewIndex
public import Idealize.ShloMosaic.Lib.Transfers

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Neighbours -/

set_option backward.proofsInPublic true in
/-- The device that direction `b` sends to: the right neighbour for `false`, the left one for `true`. -/
def nb : Bool → Dev nD → Dev nD
  | false, c => ⟨(c.val + 1) % 4, Nat.mod_lt _ (by decide)⟩
  | true, c => ⟨(c.val + 3) % 4, Nat.mod_lt _ (by decide)⟩

/-- Going one way and then the other is staying. -/
theorem nb_back (b : Bool) (c : Dev nD) : nb (!b) (nb b c) = c := by revert b c; decide
theorem nb_forth (b : Bool) (c : Dev nD) : nb b (nb (!b) c) = c := by revert b c; decide

/-- Direction `b` as a permutation of the devices. -/
def turn (b : Bool) : Dev nD ≃ Dev nD := ⟨nb b, nb (!b), nb_back b, nb_forth b⟩

/-- The device whose rows device `c` holds in stream `b` after `h` hops. -/
def origin (b : Bool) : Dev nD → ℕ → Dev nD
  | c, 0 => c
  | c, h + 1 => origin b (nb (!b) c) h

/-- One hop further, the receiver holds what the sender held. -/
theorem origin_send (b : Bool) (c : Dev nD) (h : ℕ) : origin b (nb b c) (h + 1) = origin b c h := by
  show origin b (nb (!b) (nb b c)) h = _
  rw [nb_back]

/-- The devices that the kernel's printed signals and copies address. -/
theorem dev1_eq (c : Dev nD) : (⟨k0_dev1 c, k0_dev1_lt c⟩ : Dev nD) = nb true c := by revert c; decide
theorem dev2_eq (c : Dev nD) : (⟨k0_dev2 c, k0_dev2_lt c⟩ : Dev nD) = nb false c := by revert c; decide
theorem dev3_eq (c : Dev nD) : (⟨k0_dev3 c, k0_dev3_lt c⟩ : Dev nD) = nb false c := by revert c; decide
theorem dev4_eq (c : Dev nD) : (⟨k0_dev4 c, k0_dev4_lt c⟩ : Dev nD) = nb true c := by revert c; decide
theorem dev5_eq (c : Dev nD) : (⟨k0_dev5 c, k0_dev5_lt c⟩ : Dev nD) = nb true c := by revert c; decide
theorem dev6_eq (c : Dev nD) : (⟨k0_dev6 c, k0_dev6_lt c⟩ : Dev nD) = nb false c := by revert c; decide
theorem dev7_eq (c : Dev nD) : (⟨k0_dev7 c, k0_dev7_lt c⟩ : Dev nD) = nb false c := by revert c; decide
theorem dev8_eq (c : Dev nD) : (⟨k0_dev8 c, k0_dev8_lt c⟩ : Dev nD) = nb true c := by revert c; decide
theorem dev9_eq (c : Dev nD) : (⟨k0_dev9 c, k0_dev9_lt c⟩ : Dev nD) = nb true c := by revert c; decide
theorem dev10_eq (c : Dev nD) : (⟨k0_dev10 c, k0_dev10_lt c⟩ : Dev nD) = nb false c := by revert c; decide
theorem dev11_eq (c : Dev nD) : (⟨k0_dev11 c, k0_dev11_lt c⟩ : Dev nD) = nb false c := by revert c; decide
theorem dev12_eq (c : Dev nD) : (⟨k0_dev12 c, k0_dev12_lt c⟩ : Dev nD) = nb true c := by revert c; decide

/-! ## Buffers -/

abbrev aM : Memref sig .tc .hbm S3072x1536 .f32 := Memref.whole main_arg0
abbrev bM : Memref sig .tc .hbm S1536x3072 .f32 := Memref.whole main_arg1
abbrev oM : Memref sig .tc .hbm S12288x3072 .f32 := Memref.whole main_v1
abbrev stM : Memref sig .tc .vmem S1536x1536 .f32 := Memref.whole cc0_scratch0
abbrev wM : Memref sig .tc .vmem S1536x3072 .bf16 := Memref.whole cc0_scratch1
abbrev ctM : Memref sig .tc .vmem S1536x3072 .f32 := Memref.whole cc0_scratch4

/-- The two-slot buffer of direction `b`. -/
abbrev cm (b : Bool) : Memref sig .tc .vmem S2x1536x1536 .bf16 :=
  match b with
  | false => Memref.whole cc0_scratch2
  | true => Memref.whole cc0_scratch3

theorem slot_inb (i : Fin 2) : ∀ a, (![i.val, 0, 0] : Fin 3 → ℕ) a + S1x1536x1536.size a ≤ S2x1536x1536.size a := by
  fin_cases i <;> decide

/-- Slot `i` of the buffer of direction `b`, with its leading axis of size one, -/
abbrev sl (b : Bool) (i : Fin 2) : Memref sig .tc .vmem S1x1536x1536 .bf16 :=
  (cm b).slice (Rect.unit (s := S2x1536x1536) ![i.val, 0, 0] S1x1536x1536.size (slot_inb i)) (fun _ => rfl)

/-- and without it, as the remote copies name it. -/
abbrev sq (b : Bool) (i : Fin 2) : Memref sig .tc .vmem S1536x1536 .bf16 :=
  (sl b i).squeeze S1536x1536 squeezes_S1x1536x1536_S1536x1536

/-- What one remote copy of a slot credits. -/
def cr (b : Bool) : ℕ := (sq b 0).view.dmaCredit
theorem cr_pos (b : Bool) : 0 < cr b := by unfold cr; exact View.dmaCredit_pos _ (by decide)
theorem cr_slot (b : Bool) (i : Fin 2) : (sq b i).view.dmaCredit = cr b := by cases b <;> rfl

/-! ## Semaphores -/

/-- The runtime's barrier semaphore of the kernel's collective. -/
abbrev barS : Sem sig := (SemArray.scalar (sig.barrier 0 rfl) : Sems sig S_).sem
/-- The semaphores of the copies into the staging buffer and out of the result tile. -/
abbrev ldS : DmaSem sig := (cc0_scratch5 : DmaSems sig S_).sem
abbrev stS : DmaSem sig := (cc0_scratch6 : DmaSems sig S_).sem

/-- The semaphores on which devices talk: `none` is the barrier; `some (b, false, h)` the send semaphore and
    `some (b, true, h)` the receive semaphore of direction `b` at hop `h`. -/
abbrev Chan : Type := Option (Bool × Bool × Fin 3)

/-- The DMA semaphore of direction `b`, side `r`, hop `h`: the twelve lie after the two local ones. -/
abbrev csemD (b r : Bool) (h : Fin 3) : DmaSem sig :=
  ⟨2 + 6 * b.toNat + 3 * r.toNat + h.val, by cases b <;> cases r <;> fin_cases h <;> decide⟩

abbrev csem : Chan → SemLoc sig
  | none => .reg barS
  | some (b, r, h) => .dma (csemD b r h)

/-- The channel of a semaphore, if it is one. -/
def chanOf : SemLoc sig → Option Chan
  | .reg s => if s = barS then some none else none
  | .dma q => if q.val < 2 then none else
      some (some (decide (8 ≤ q.val), decide ((q.val - 2) % 6 / 3 = 1), ⟨(q.val - 2) % 3, Nat.mod_lt _ (by decide)⟩))

theorem chanOf_csem (k : Chan) : chanOf (csem k) = some k := by
  rcases k with _ | ⟨b, r, h⟩
  · rfl
  · cases b <;> cases r <;> fin_cases h <;> rfl

theorem csem_injective : Function.Injective csem := fun k k' h => by
  have := congrArg chanOf h
  rwa [chanOf_csem, chanOf_csem, Option.some.injEq] at this

/-- Device `c`'s semaphore of channel `k`. -/
abbrev kcell (c : Dev nD) (k : Chan) : GSem nD τ sig := ((c : Thread nD τ), csem k)
abbrev barC (c : Dev nD) : GSem nD τ sig := kcell c none
abbrev sendC (b : Bool) (h : Fin 3) (c : Dev nD) : GSem nD τ sig := kcell c (some (b, false, h))
abbrev recvC (b : Bool) (h : Fin 3) (c : Dev nD) : GSem nD τ sig := kcell c (some (b, true, h))

/-- The slot that hop `h` sends from, and the slot it lands in. -/
abbrev srcI (h : Fin 3) : Fin 2 := ⟨h.val % 2, Nat.mod_lt _ (by decide)⟩
abbrev dstI (h : Fin 3) : Fin 2 := ⟨(h.val + 1) % 2, Nat.mod_lt _ (by decide)⟩

/-! ## Values -/

variable (m : (ℓ : Loc nD τ sig) → Buf (Elt F) ℓ)

/-- Device `c`'s rows of the left matrix, and its copy of the right matrix. -/
abbrev aV (c : Dev nD) : Vec F S3072x1536 .f32 := m ((c : Thread nD τ).loc main_arg0)
abbrev bV (c : Dev nD) : Vec F S1536x3072 .f32 := m ((c : Thread nD τ).loc main_arg1)

theorem half_inb (b : Bool) : ∀ a, (![1536 * b.toNat, 0] : Fin 2 → ℕ) a + S1536x1536.size a ≤ S3072x1536.size a := by
  cases b <;> decide

/-- The half of device `c`'s rows that direction `b` carries: the upper half for `false`, the lower for `true`. -/
def aHalf (b : Bool) (c : Dev nD) : Vec F S1536x1536 .f32 :=
  VecWindow.window (aV m c) ![1536 * b.toNat, 0] S1536x1536.size (half_inb b)

/-- That half as it travels: narrowed, under a leading axis of size one. -/
def tile (b : Bool) (c : Dev nD) : Vec F S1x1536x1536 .bf16 := k0_pay4 (aHalf m b c)

/-- Device `c`'s right matrix, narrowed. -/
def bNar (c : Dev nD) : Vec F S1536x3072 .bf16 := truncf .bf16 (bV m c) bitsLt_bf16_f32

/-- What device `c` computes from half `b` of device `d`'s rows: their product with its right matrix. -/
def prod (b : Bool) (d c : Dev nD) : Vec F S1536x3072 .f32 := k0_pay7 (tile m b d) (bNar m c)

end Cert.KernelIdeal.RingProof
-- ==== Proof.RingIdeal.Sched.lean ====
/-
  The protocol of the kernel, cell by cell. For every device:

  * the barrier cell has three rounds, one per hop, of two units each. In round `h` the neighbour that stream `b` goes
    to pays one unit and hands over its slot `(h + 1) % 2` of stream `b`, whatever it holds: the slot into which the
    waiting device is about to copy. A device signals only when it no longer reads that slot;
  * the send cell of stream `b` at hop `h` has one round, paid by the device's own copy; it hands back the half share
    of the slot that the copy read;
  * the receive cell of stream `b` at hop `h` has one round, paid by the copy of the neighbour on the other side; it
    hands over the slot `(h + 1) % 2` holding the half block that stood one hop further back, and the knowledge that
    the sender has passed its barrier of that hop (so that its next barrier round may be paid).
-/
module

public import proofs.«01_k».proof.Proof.RingIdeal.Ring

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
/-- The protocol's rounds live in the left half of the right factor; the counters of the local copies beside them. -/
def ER : Emb UB (MT nD τ sig ℕ (Elt F) ℕ UU ℕ) :=
  ((Emb.inl : Emb UB (UB × Counters)).trans (Emb.inr : Emb (UB × Counters) UU)).trans
    (uEmb (nD := nD) (τ := τ) (sig := sig) (Ix := ℕ) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ)

/-! ## Slots as resources -/

/-- Share `q` of slot `i` of stream `b` on device `c`, holding `X`. -/
def slotAt (q : PosShare TreeShare) (b : Bool) (c : Dev nD) (i : Fin 2) (X : Vec F S1x1536x1536 .bf16) : sProp 𝕄 :=
  (sl b i).view.loc (c : Thread nD τ) ↦[(sl b i).view.set]{q} (sl b i).view.rep X

/-- Slot `i` of stream `b` on device `c`, whatever it holds. -/
def slotAny (b : Bool) (c : Dev nD) (i : Fin 2) : sProp 𝕄 :=
  iprop(∃ f : Buf (Elt F) ((sl b i).view.loc (c : Thread nD τ)), (sl b i).view.loc (c : Thread nD τ) ↦[(sl b i).view.set]{fullShare} f)

instance slotAt_storable (q b c i) (X : Vec F S1x1536x1536 .bf16) : BI.Storable (upEmb : UEmb _ 𝕄) (slotAt q b c i X) := by
  unfold slotAt; infer_instance
instance slotAny_storable (b c i) : BI.Storable (upEmb : UEmb _ 𝕄) (slotAny (F := F) b c i) := by
  unfold slotAny; infer_instance

theorem slotAt_any (b : Bool) (c : Dev nD) (i : Fin 2) (X : Vec F S1x1536x1536 .bf16) :
    slotAt fullShare b c i X ⊢ slotAny b c i := by
  unfold slotAt slotAny; iintro H; iexists _; iexact H

/-- The two halves of a slot's share are the whole. -/
theorem slotAt_halves (b : Bool) (c : Dev nD) (i : Fin 2) (X : Vec F S1x1536x1536 .bf16) :
    slotAt fullShare b c i X ⊣⊢ iprop(slotAt fullShare.left b c i X ∗ slotAt fullShare.right b c i X) := by
  unfold slotAt; exact pointsTo_share (PosShare.mem_left_op_right fullShare)

/-! ## The schedule -/

/-- What duty `d` of round `r` of device `c`'s cell `k` hands over. -/
def pay (c : Dev nD) : Chan → ℕ → Bool → sProp 𝕄
  | none, r, b => slotAny b (nb b c) ⟨(r + 1) % 2, Nat.mod_lt _ (by decide)⟩
  | some (b, false, h), _, _ => slotAt fullShare.left b c (srcI h) (tile m b (origin b c h))
  | some (b, true, h), _, _ =>
      iprop(slotAt fullShare b c (dstI h) (tile m b (origin b c (h + 1))) ∗ reached ER (barC (nb (!b) c)) (h + 1))

instance pay_storable (c : Dev nD) (k : Chan) (r : ℕ) (d : Bool) : BI.Storable (upEmb : UEmb _ 𝕄) (pay m c k r d) := by
  rcases k with _ | ⟨b, _ | _, h⟩ <;> unfold pay <;> infer_instance

theorem pay_bar (c : Dev nD) (h : Fin 3) (b : Bool) : pay m c none h.val b = slotAny b (nb b c) (dstI h) := rfl
theorem pay_send (c : Dev nD) (b : Bool) (h : Fin 3) (r : ℕ) (d : Bool) :
    pay m c (some (b, false, h)) r d = slotAt fullShare.left b c (srcI h) (tile m b (origin b c h)) := rfl
theorem pay_recv (c : Dev nD) (b : Bool) (h : Fin 3) (r : ℕ) (d : Bool) : pay m c (some (b, true, h)) r d
    = iprop(slotAt fullShare b c (dstI h) (tile m b (origin b c (h + 1))) ∗ reached ER (barC (nb (!b) c)) (h + 1)) := rfl

/-- Who owes a unit in which round. -/
def dutiesOf : Chan → ℕ → Finset Bool
  | none, r => if r < 3 then Finset.univ else ∅
  | some _, r => if r = 0 then {false} else ∅

/-- How much a duty pays. -/
def amountOf : Chan → ℕ
  | none => 1
  | some (b, _, _) => cr b

theorem amountOf_pos (k : Chan) : 0 < amountOf k := by
  rcases k with _ | ⟨b, r, h⟩
  · exact Nat.one_pos
  · exact cr_pos b

/-- The whole protocol. -/
def Rd : Rounds.Schedule (GSem nD τ sig) Bool 𝕄 where
  duties g r := match chanOf g.2 with
    | some k => dutiesOf k r
    | none => ∅
  unitless _ := False
  amount g _ _ := match chanOf g.2 with
    | some k => amountOf k
    | none => 1
  payload g r d := match chanOf g.2 with
    | some k => pay m g.1.1 k r d
    | none => iprop(emp)
  amount_pos g _ _ _ := by
    split
    · exact amountOf_pos _
    · exact Nat.one_pos

instance Rd_payload_storable (g : GSem nD τ sig) (r : ℕ) (d : Bool) :
    BI.Storable (upEmb : UEmb _ 𝕄) ((Rd (F := F) m).payload g r d) := by
  show BI.Storable upEmb (match chanOf g.2 with | some k => pay m g.1.1 k r d | none => iprop(emp))
  split <;> infer_instance

section Tables
variable (c : Dev nD) (k : Chan) (b : Bool) (h : Fin 3)

theorem duties_eq (r : ℕ) : (Rd m).duties (kcell c k) r = dutiesOf k r := by
  dsimp only [Rd]; rw [chanOf_csem]
theorem amount_eq (r : ℕ) (d : Bool) : (Rd m).amount (kcell c k) r d = amountOf k := by
  dsimp only [Rd]; rw [chanOf_csem]
theorem payload_eq (r : ℕ) (d : Bool) : (Rd m).payload (kcell c k) r d = pay m c k r d := by
  dsimp only [Rd]; rw [chanOf_csem]

theorem duties_bar : (Rd m).duties (barC c) h.val = Finset.univ := by
  rw [duties_eq]; exact if_pos h.isLt
theorem duties_dma (x : Bool × Bool × Fin 3) : (Rd m).duties (kcell c (some x)) 0 = {false} := by
  rw [duties_eq]; rfl

theorem mem_bar (d : Bool) : d ∈ (Rd m).duties (barC c) h.val := by rw [duties_bar]; exact Finset.mem_univ _
theorem mem_dma (x : Bool × Bool × Fin 3) : false ∈ (Rd m).duties (kcell c (some x)) 0 := by
  rw [duties_dma]; exact Finset.mem_singleton_self _

/-- No cell has a duty from round 3 on, and a DMA cell none from round 1 on. -/
theorem duties_later_bar : ∀ r, 3 ≤ r → (Rd m).duties (barC c) r = ∅ := fun r hr => by
  rw [duties_eq]; exact if_neg (by omega)
theorem duties_later_dma (x : Bool × Bool × Fin 3) : ∀ r, 1 ≤ r → (Rd m).duties (kcell c (some x)) r = ∅ := fun r hr => by
  rw [duties_eq]; exact if_neg (by omega)

theorem expect_bar : (Rd m).expect (barC c) h.val = 2 := by
  unfold Schedule.expect Schedule.amountOf
  rw [duties_bar, Finset.sum_congr rfl fun d _ => amount_eq m c none h.val d, Finset.sum_const, Finset.card_univ, Fintype.card_bool,
    smul_eq_mul]
  rfl
theorem amountOf_dma (b r : Bool) (h : Fin 3) : amountOf (some (b, r, h)) = cr b := by unfold amountOf; rfl
theorem expect_dma (b r : Bool) (h : Fin 3) : (Rd m).expect (kcell c (some (b, r, h))) 0 = cr b := by
  unfold Schedule.expect Schedule.amountOf
  rw [duties_dma, Finset.sum_singleton, amount_eq, amountOf_dma]

/-- What a whole round hands over: at the barrier, the two slots this device is about to copy into; -/
theorem rest_bar : bigSep ((Rd m).duties (barC c) h.val \ ∅) (fun d => (Rd m).payload (barC c) h.val d)
    = iprop(slotAny false (nb false c) (dstI h) ∗ slotAny true (nb true c) (dstI h)) := by
  rw [Finset.sdiff_empty, duties_bar, bigSep_univ_eq_bigSepL [false, true] (by decide) (by decide), bigSepL_cons_cons,
    bigSepL_singleton, payload_eq, payload_eq]
  rfl
/-- at a DMA cell, the one payload. -/
theorem rest_dma (x : Bool × Bool × Fin 3) :
    bigSep ((Rd m).duties (kcell c (some x)) 0 \ ∅) (fun d => (Rd m).payload (kcell c (some x)) 0 d) = pay m c (some x) 0 false := by
  rw [Finset.sdiff_empty, duties_dma, bigSep_singleton, payload_eq]

end Tables

/-! ## What a device owes, and the order of the waits -/

/-- The barrier unit that device `c` owes the neighbour stream `b` goes to, at hop `h`; -/
def oweBar (c : Dev nD) (h : Fin 3) (b : Bool) : CellTallies nD τ sig ℕ := tallyAt (barC (nb b c)) h.val 1
/-- the copy of stream `b` that it owes that neighbour at hop `h`. -/
def oweCopy (c : Dev nD) (h : Fin 3) (b : Bool) : CellTallies nD τ sig ℕ := tallyAt (recvC b h (nb b c)) 0 (cr b)

/-- What device `c` still owes while it has yet to do hop `h`'s signals and copies and owes `O` beyond: nested in the
    order in which it pays — left signal, right signal, right copy, left copy. -/
def oweL (c : Dev nD) (h : Fin 3) (O : CellTallies nD τ sig ℕ) : CellTallies nD τ sig ℕ := O + oweCopy c h true
def oweR (c : Dev nD) (h : Fin 3) (O : CellTallies nD τ sig ℕ) : CellTallies nD τ sig ℕ := oweL c h O + oweCopy c h false
def oweS (c : Dev nD) (h : Fin 3) (O : CellTallies nD τ sig ℕ) : CellTallies nD τ sig ℕ := oweR c h O + oweBar c h false
def oweH (c : Dev nD) (h : Fin 3) (O : CellTallies nD τ sig ℕ) : CellTallies nD τ sig ℕ := oweS c h O + oweBar c h true

/-- What it owes before hop 2, before hop 1, and at the start. -/
def O2 (c : Dev nD) : CellTallies nD τ sig ℕ := oweH c 2 0
def O1 (c : Dev nD) : CellTallies nD τ sig ℕ := oweH c 1 (O2 c)
def O0 (c : Dev nD) : CellTallies nD τ sig ℕ := oweH c 0 (O1 c)

/-- The level of a cell at an index: everything local at 0, the barrier of hop `h` at `2h + 1`, the receipts of hop `h`
    at `2h + 2`. -/
def lvOf : Option Chan → ℕ → ℕ
  | some none, ι => 2 * ι + 1
  | some (some (_, true, h)), _ => 2 * h.val + 2
  | _, _ => 0
def lv (g : GSem nD τ sig) (ι : ℕ) : ℕ := lvOf (chanOf g.2) ι

/-- The indices at which a cell has a level. -/
def L (g : GSem nD τ sig) : Finset ℕ := if g.1.2 = .tc then {0, 1, 2} else ∅
theorem L_of_ne (g : GSem nD τ sig) (h : g.1.2 ≠ .tc) : L g = ∅ := if_neg h
theorem L_tc (c : Dev nD) (sm : SemLoc sig) : L ((c : Thread nD τ), sm) = {0, 1, 2} := if_pos rfl

theorem lv_kcell (c : Dev nD) (k : Chan) (ι : ℕ) : lv (kcell c k) ι = lvOf (some k) ι := by unfold lv; rw [chanOf_csem]

/-- Everything in `O` lies at a level above `n`. -/
def Above (n : ℕ) (O : CellTallies nD τ sig ℕ) : Prop := ∀ (g : GSem nD τ sig) (ι : ℕ), 0 < O g ι → ι ∈ L g ∧ n < lv g ι

theorem Above.zero (n : ℕ) : Above n 0 := fun g ι h => absurd h (Nat.lt_irrefl 0)
theorem Above.add {n : ℕ} {O O' : CellTallies nD τ sig ℕ} (h : Above n O) (h' : Above n O') : Above n (O + O') := fun g ι hp => by
  rw [Pi.add_apply, Finsupp.add_apply] at hp
  rcases Nat.eq_zero_or_pos (O g ι) with h0 | h0
  · exact h' g ι (by omega)
  · exact h g ι h0
theorem Above.at {n : ℕ} {c : Dev nD} {k : Chan} {ι a : ℕ} (hι : ι ∈ ({0, 1, 2} : Finset ℕ)) (hl : n < lvOf (some k) ι) :
    Above n (tallyAt (kcell c k) ι a) := fun g j hp => by
  rw [tallyAt_apply] at hp
  split at hp
  · next e => obtain ⟨rfl, rfl⟩ := e; exact ⟨by rw [L_tc]; exact hι, by rw [lv_kcell]; exact hl⟩
  · exact absurd hp (Nat.lt_irrefl 0)
theorem Above.mono {n n' : ℕ} {O : CellTallies nD τ sig ℕ} (h : Above n O) (hn : n' ≤ n) : Above n' O := fun g ι hp =>
  ⟨(h g ι hp).1, lt_of_le_of_lt hn (h g ι hp).2⟩

theorem bar_idx : ∀ h : Fin 3, h.val ∈ ({0, 1, 2} : Finset ℕ) := by decide

theorem Above.bar (c : Dev nD) (h : Fin 3) (b : Bool) {n : ℕ} (hn : n < 2 * h.val + 1) : Above n (oweBar c h b) :=
  Above.at (bar_idx h) hn
theorem Above.copy (c : Dev nD) (h : Fin 3) (b : Bool) {n : ℕ} (hn : n < 2 * h.val + 2) : Above n (oweCopy c h b) :=
  Above.at (by decide) hn
theorem Above.L (c : Dev nD) (h : Fin 3) {n : ℕ} {O : CellTallies nD τ sig ℕ} (hO : Above n O) (hn : n < 2 * h.val + 2) : Above n (oweL c h O) :=
  hO.add (Above.copy c h true hn)
theorem Above.R (c : Dev nD) (h : Fin 3) {n : ℕ} {O : CellTallies nD τ sig ℕ} (hO : Above n O) (hn : n < 2 * h.val + 2) : Above n (oweR c h O) :=
  (Above.L c h hO hn).add (Above.copy c h false hn)
theorem Above.H (c : Dev nD) (h : Fin 3) {n : ℕ} {O : CellTallies nD τ sig ℕ} (hO : Above n O) (hn : n < 2 * h.val + 1) : Above n (oweH c h O) :=
  ((Above.R c h hO (by omega)).add (Above.bar c h false hn)).add (Above.bar c h true hn)

theorem Above.O2 (c : Dev nD) : Above 4 (O2 c) := Above.H c 2 (Above.zero _) (by decide)
theorem Above.O1 (c : Dev nD) : Above 2 (O1 c) := Above.H c 1 ((Above.O2 c).mono (by decide)) (by decide)
theorem Above.O0 (c : Dev nD) : Above 0 (O0 c) := Above.H c 0 ((Above.O1 c).mono (by decide)) (by decide)

/-- A device may wait on a cell of its own that lies below everything it owes. -/
theorem mayWait (c : Dev nD) (sm : SemLoc sig) (ι : ℕ) {O : CellTallies nD τ sig ℕ} (hι : ι ∈ ({0, 1, 2} : Finset ℕ))
    {n : ℕ} (hn : lvOf (chanOf sm) ι ≤ n) (hO : Above n O) : (levAts L lv : sProp 𝕄) ⊢ MayWait (c : Thread nD τ) sm ι O :=
  Pipeline.mayWait_of_levAts (by rw [L_tc]; exact hι) fun g i hp => ⟨(hO g i hp).1, lt_of_le_of_lt hn (hO g i hp).2⟩

end Cert.KernelIdeal.RingProof
-- ==== Proof.RingIdeal.Steps.lean ====
/-
  One rule for each kind of step that the body takes, stated for a device `c`, a stream `b` and a hop `h`: the barrier's
  signals and its wait, the copy to the neighbour, the waits for it, a copy within the device, and the two compound
  steps "fetch a block, narrow it and keep it" and "multiply a slot by the right matrix and copy the product out".
-/
module

public import proofs.«01_k».proof.Proof.RingIdeal.Sched

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

variable (m : (ℓ : Loc nD τ sig) → Buf (Elt F) ℓ)

/-! ## What all devices know -/

/-- The cells' invariants (under the names `K`), that round 0 of each is reached, and the levels. -/
def records (K : Dev nD × Chan → ℕ) : sProp 𝕄 :=
  iprop((bigSep Finset.univ fun ck : Dev nD × Chan => cellInv ER (Rd m) (K ck) (kcell ck.1 ck.2))
    ∗ (bigSep Finset.univ fun ck : Dev nD × Chan => reached ER (kcell ck.1 ck.2) 0) ∗ levAts L lv)

instance records_persistent (K : Dev nD × Chan → ℕ) : BI.Persistent (records m K) := by unfold records; infer_instance

theorem records_inv (K : Dev nD × Chan → ℕ) (c : Dev nD) (k : Chan) :
    records m K ⊢ cellInv ER (Rd m) (K (c, k)) (kcell c k) := by
  unfold records
  exact sep_elim_left.trans (bigSep_elim (Φ := fun ck : Dev nD × Chan => cellInv ER (Rd m) (K ck) (kcell ck.1 ck.2)) (Finset.mem_univ (c, k)))

theorem records_reached (K : Dev nD × Chan → ℕ) (c : Dev nD) (k : Chan) : records m K ⊢ reached ER (kcell c k) 0 := by
  unfold records
  exact sep_elim_right.trans (sep_elim_left.trans
    (bigSep_elim (Φ := fun ck : Dev nD × Chan => reached ER (kcell ck.1 ck.2) 0) (Finset.mem_univ (c, k))))

theorem records_lev (K : Dev nD × Chan → ℕ) : records m K ⊢ levAts L lv := by
  unfold records
  iintro ⟨-, -, H⟩
  iexact H

/-- Device `c` owes `O`, whatever it has waited for. -/
def owesAny (c : Dev nD) (O : CellTallies nD τ sig ℕ) : sProp 𝕄 := iprop(∃ W, owes (c : Thread nD τ) O W)

/-! ## The barrier -/

/-- The token of the unit with which device `c` pays, at hop `h`, the neighbour stream `b` goes to. -/
def barTok (c : Dev nD) (h : Fin 3) (b : Bool) : sProp 𝕄 := dutyTok ER (barC (nb b c)) h.val (!b)

section Steps

variable (K : Dev nD × Chan → ℕ) (c : Dev nD) (h : Fin 3) (b : Bool)

/-- A signal of the barrier hands the neighbour this device's slot of the stream that comes from there. -/
theorem wp_bar_signal {O O₀ : CellTallies nD τ sig ℕ} (hO : O₀ = O + oweBar c h b) {n : Dev nD} (hn : n = nb b c) {s : Sem sig} (hs : s = barS)
    {a : ℕ} (ha : a = 1) {k : PUnit → Prog (TpuEff nD τ sig (Elt F) Λ₀ .tc) PUnit} {Q : PUnit → sProp 𝕄} :
    iprop(records m K ∗ owesAny c O₀ ∗ barTok c h b ∗ reached ER (barC (nb b c)) h.val ∗ slotAny (!b) c (dstI h))
      ⊢ iprop((owesAny c O -∗ wp frame (wpE (defs₀ (F := F)) 𝒱₀ c none) Set.univ (k ⟨⟩) Q)
        -∗ wp frame (wpE (defs₀ (F := F)) 𝒱₀ c none) Set.univ (.op (.semSignal (Dev.tc n) s a) k) Q) := by
  subst hn hs ha
  unfold owesAny barTok
  iintro ⟨#Hrec, ⟨%W, HO⟩, Ht, #Hr, Hs⟩ Hk
  iapply (Rounds.wp_signal 𝒱₀ ER (Rd m) (c : Thread nD τ) none (dst := (nb b c : Thread nD τ)) (κ := K (nb b c, none)) (r := h.val)
      (d := !b) (mem_bar m (nb b c) h (!b)) (amount_eq m (nb b c) none h.val (!b)) h.val O (W := W) hO) $$ [HO Ht Hs]
  · isplitr; · iapply (records_inv m K); iexact Hrec
    isplitl [HO]; · iexact HO
    isplitl [Ht]; · iexact Ht
    isplitl [Hs]
    · iapply (Entails.of_eq ((payload_eq m (nb b c) none h.val (!b)).trans ((pay_bar m (nb b c) h (!b)).trans (by rw [nb_back]))).symm)
      iexact Hs
    · iexact Hr
  iintro HO
  iapply Hk
  iexists W; iexact HO

/-- The barrier's wait: both slots into which this device is about to copy. -/
theorem wp_bar_wait {O : CellTallies nD τ sig ℕ} (hO : Above (2 * h.val + 1) O) {s : Sem sig} (hs : s = barS) {a : ℕ} (ha : a = 2)
    {k : PUnit → Prog (TpuEff nD τ sig (Elt F) Λ₀ .tc) PUnit} {Q : PUnit → sProp 𝕄} :
    iprop(records m K ∗ owesAny c O ∗ cred (tallyAt (barC c) h.val 2) ∗ atPos ER (barC c) h.val ∅ 0)
      ⊢ iprop(((owesAny c O ∗ atPos ER (barC c) (h.val + 1) ∅ 0 ∗ reached ER (barC c) (h.val + 1)
            ∗ slotAny false (nb false c) (dstI h) ∗ slotAny true (nb true c) (dstI h))
          -∗ wp frame (wpE (defs₀ (F := F)) 𝒱₀ c none) Set.univ (k ⟨⟩) Q)
        -∗ wp frame (wpE (defs₀ (F := F)) 𝒱₀ c none) Set.univ (.op (.semWait s a) k) Q) := by
  subst hs ha
  unfold owesAny
  iintro ⟨#Hrec, ⟨%W, HO⟩, Hc, Hat⟩ Hk
  iapply (Rounds.wp_wait_rest_token 𝒱₀ ER (Rd m) (c : Thread nD τ) none (κ := K (c, none))
      (wpE_semWait_eq 𝒱₀ (c : Thread nD τ) none Set.univ) (Set.mem_univ _) h.val (O := O) (W := W) (R := h.val) (m := 0) (T := ∅)
      (by rw [expect_bar])) $$ [HO Hc Hat]
  · isplitr; · iapply (records_inv m K c none); iexact Hrec
    isplitl [Hc]; · iexact Hc
    isplitl [HO]; · iexact HO
    isplitr
    · iapply (mayWait c (.reg barS) h.val (bar_idx h) (n := 2 * h.val + 1) (le_of_eq (congrArg (lvOf · h.val) (chanOf_csem none))) hO)
      iapply (records_lev m K); iexact Hrec
    iexact Hat
  iintro ⟨HO, Hat, Hr, Hp⟩
  ihave Hp := (Entails.of_eq (rest_bar m c h)) $$ Hp
  icases Hp with ⟨Hp1, Hp2⟩
  iapply Hk
  isplitl [HO]; · iexists _; iexact HO
  isplitl [Hat]; · iexact Hat
  isplitl [Hr]; · iexact Hr
  isplitl [Hp1] <;> iassumption

/-! ## The copies between devices -/

/-- What a copy of a slot leaves in the slot it lands in: the same contents. -/
theorem landed (c' : Dev nD) (i j : Fin 2) (X : Vec F S1x1536x1536 .bf16) (fd : Buf (Elt F) ((sq b j).view.loc (c' : Thread nD τ))) :
    ((sq b j).view.loc (c' : Thread nD τ) ↦[(sq b j).view.set]{fullShare}
        ((sq b j).view.write (Elt F) fd ((sq b i).view.read (Elt F) ((sl b i).view.rep X)) Finset.univ) : sProp 𝕄)
      ⊢ slotAt fullShare b c' j X := by
  unfold slotAt
  have e : (sq b j).view.set = (sl b j).view.set := View.set_reshape _ _
  rw [e]
  refine pointsTo_rep_of_read (c' : Thread nD τ) (sl b j) _ fullShare X ?_
  funext x
  have h1 := View.read_write_reshape (sl b j).view squeezes_S1x1536x1536_S1536x1536.numel_eq fd
    ((sq b i).view.read (Elt F) ((sl b i).view.rep X)) ((Shape.reshapeEquiv squeezes_S1x1536x1536_S1536x1536.numel_eq).symm x)
  rw [Equiv.apply_symm_apply] at h1
  refine h1.trans ?_
  have h2 : (sq b i).view.read (Elt F) ((sl b i).view.rep X) ((Shape.reshapeEquiv squeezes_S1x1536x1536_S1536x1536.numel_eq).symm x)
      = (sl b i).view.read (Elt F) ((sl b i).view.rep X)
          (Shape.reshapeEquiv squeezes_S1x1536x1536_S1536x1536.numel_eq ((Shape.reshapeEquiv squeezes_S1x1536x1536_S1536x1536.numel_eq).symm x)) := rfl
  rw [h2, Equiv.apply_symm_apply, View.read_rep]

/-- The copy of hop `h`, stream `b`: half the slot's share goes with the copy, and the neighbour will be handed the slot
    with what this one holds. -/
theorem wp_hop_send {O O₀ : CellTallies nD τ sig ℕ} (hO : O₀ = O + oweCopy c h b) {n : Dev nD} (hn : n = nb b c)
    {src : Memref sig (c : Thread nD τ).2.kind .vmem S1536x1536 .bf16} {dst : Memref sig (Dev.tc n : Thread nD τ).2.kind .vmem S1536x1536 .bf16} {sS sR : SemLoc sig}
    (e1 : src = sq b (srcI h)) (e2 : dst = sq b (dstI h)) (e3 : sS = .dma (csemD b false h)) (e4 : sR = .dma (csemD b true h))
    {hsc : dst.view.ref.isScScratch = false} {hsrc : src.view.WordExact} {hdst : dst.view.WordExact}
    {hsem : DmaTarget.Typed .vmem sR (.remote (Dev.tc n) dst sS hsc)}
    {k : PUnit → Prog (TpuEff nD τ sig (Elt F) Λ₀ .tc) PUnit} {Q : PUnit → sProp 𝕄} :
    iprop(records m K ∗ owesAny c O₀ ∗ dutyTok ER (sendC b h c) 0 false ∗ dutyTok ER (recvC b h (nb b c)) 0 false
        ∗ slotAt fullShare b c (srcI h) (tile m b (origin b c h)) ∗ slotAny b (nb b c) (dstI h) ∗ reached ER (barC c) (h.val + 1))
      ⊢ iprop(((owesAny c O ∗ cred (tallyAt (sendC b h c) 0 (cr b)) ∗ slotAt fullShare.right b c (srcI h) (tile m b (origin b c h)))
          -∗ wp frame (wpE (defs₀ (F := F)) 𝒱₀ c none) Set.univ (k ⟨⟩) Q)
        -∗ wp frame (wpE (defs₀ (F := F)) 𝒱₀ c none) Set.univ (.op (.enqueueDma src (.remote (Dev.tc n) dst sS hsc) sR hsrc hdst hsem) k) Q) := by
  subst hn e1 e2 e3 e4
  unfold owesAny slotAny
  iintro ⟨#Hrec, ⟨%W, HO⟩, HtS, HtR, Hsl, ⟨%fd, Hd⟩, #Hr⟩ Hk
  ihave Hsl := (slotAt_halves b c (srcI h) (tile m b (origin b c h))).1 $$ Hsl
  icases Hsl with ⟨HslL, HslR⟩
  iapply (Rounds.wp_send_pointsTo_with 𝒱₀ ER (Rd m) (c : Thread nD τ) none (c' := (nb b c : Thread nD τ)) (src := sq b (srcI h)) (dst := sq b (dstI h))
      (sS := .dma (csemD b false h)) (sem := .dma (csemD b true h))
      (q := fullShare.left) (fs := (sl b (srcI h)).view.rep (tile m b (origin b c h))) (fd := fd) (F := reached ER (barC c) (h.val + 1))
      (r₁ := 0) (r₂ := 0) (d₁ := false) (d₂ := false) (κ₁ := K (c, some (b, false, h))) (κ₂ := K (nb b c, some (b, true, h)))
      (mem_dma m c (b, false, h)) (mem_dma m (nb b c) (b, true, h))
      0 0 (cr b) (cr_slot b (dstI h)) ((amount_eq m c (some (b, false, h)) 0 false).trans (amountOf_dma b false h))
      ((amount_eq m (nb b c) (some (b, true, h)) 0 false).trans (amountOf_dma b true h)) O (W := W) hO
      (by
        refine BIBase.Entails.trans ?_ (Entails.of_eq ((payload_eq m c (some (b, false, h)) 0 false).trans (pay_send m c b h 0 false)).symm)
        unfold slotAt
        have e : (sq b (srcI h)).view.set = (sl b (srcI h)).view.set := View.set_reshape _ _
        rw [e])
      (by
        refine BIBase.Entails.trans ?_ (Entails.of_eq ((payload_eq m (nb b c) (some (b, true, h)) 0 false).trans (pay_recv m (nb b c) b h 0 false)).symm)
        rw [nb_back, origin_send]
        exact sep_mono_left (landed b (nb b c) (srcI h) (dstI h) (tile m b (origin b c h)) fd))) $$ [HO HtS HtR HslL Hd]
  · isplitr; · iapply (records_inv m K c (some (b, false, h))); iexact Hrec
    isplitr; · iapply (records_inv m K (nb b c) (some (b, true, h))); iexact Hrec
    have e : ∀ j, (sq b j).view.set = (sl b j).view.set := fun j => View.set_reshape _ _
    rw [e, e]
    isplitl [HslL]; · unfold slotAt; iexact HslL
    isplitl [Hd]
    · isplitl [Hd]; · iexact Hd
      iexact Hr
    isplitl [HO]; · iexact HO
    isplitl [HtS]; · iexact HtS
    isplitr; · iapply (records_reached m K c (some (b, false, h))); iexact Hrec
    isplitl [HtR]; · iexact HtR
    iapply (records_reached m K (nb b c) (some (b, true, h))); iexact Hrec
  iintro ⟨Hc, HO⟩
  iapply Hk
  isplitl [HO]; · iexists W; iexact HO
  isplitl [Hc] <;> iassumption

/-- The wait for this device's own copy to have been read: the slot is whole again, and the cell is closed. -/
theorem wp_wait_send {O : CellTallies nD τ sig ℕ} (hO : Above 0 O) {s : DmaSem sig} (hs : s = csemD b false h)
    {sp sp' : Space} {s₁ s₂ : Shape} {e₁ e₂ : EltTy} {κ' : Kind} {srcw : Memref sig (c : Thread nD τ).2.kind sp s₁ e₁} {dstw : Memref sig κ' sp' s₂ e₂}
    (hN : dstw.view.dmaCredit = cr b) {h1 : srcw.view.WordExact} {h2 : dstw.view.WordExact}
    {k : PUnit → Prog (TpuEff nD τ sig (Elt F) Λ₀ .tc) PUnit} {Q : PUnit → sProp 𝕄} :
    iprop(records m K ∗ owesAny c O ∗ cred (tallyAt (sendC b h c) 0 (cr b)) ∗ atPos ER (sendC b h c) 0 ∅ 0
        ∗ slotAt fullShare.right b c (srcI h) (tile m b (origin b c h)))
      ⊢ iprop(((owesAny c O ∗ semVal (sendC b h c) 0 ∗ slotAt fullShare b c (srcI h) (tile m b (origin b c h)))
          -∗ wp frame (wpE (defs₀ (F := F)) 𝒱₀ c none) Set.univ (k ⟨⟩) Q)
        -∗ wp frame (wpE (defs₀ (F := F)) 𝒱₀ c none) Set.univ (.op (.waitDma2 s srcw dstw h1 h2) k) Q) := by
  subst hs
  unfold owesAny
  iintro ⟨#Hrec, ⟨%W, HO⟩, Hc, Hat, HslR⟩ Hk
  iapply (Rounds.wp_wait_rest_token 𝒱₀ ER (Rd m) (c : Thread nD τ) none (κ := K (c, some (b, false, h)))
      (wpE_waitDma2_eq 𝒱₀ (c : Thread nD τ) none Set.univ) (Set.mem_univ _) 0 (O := O) (W := W) (R := 0) (m := 0) (T := ∅)
      (by rw [Nat.zero_add]; exact hN.trans (expect_dma m c b false h).symm)) $$ [HO Hc Hat]
  · isplitr; · iapply (records_inv m K c (some (b, false, h))); iexact Hrec
    isplitl [Hc]; · rw [hN]; iexact Hc
    isplitl [HO]; · iexact HO
    isplitr
    · iapply (mayWait c (.dma (csemD b false h)) 0 (by decide) (n := 0) (le_of_eq (congrArg (lvOf · 0) (chanOf_csem (some (b, false, h))))) hO)
      iapply (records_lev m K); iexact Hrec
    iexact Hat
  iintro ⟨HO, Hat, -, Hp⟩
  ihave Hp := (Entails.of_eq ((rest_dma m c (b, false, h)).trans (pay_send m c b h 0 false))) $$ Hp
  imod (Rounds.cell_close ER (Rd m) (Set.mem_univ (K (c, some (b, false, h)))) (fun h => h) (R := 0 + 1) (duties_later_dma m c (b, false, h))) $$ [Hat] with Hz
  · isplitr; · iapply (records_inv m K c (some (b, false, h))); iexact Hrec
    iexact Hat
  iapply Hk
  isplitl [HO]; · iexists _; iexact HO
  isplitl [Hz]; · iexact Hz
  iapply (slotAt_halves b c (srcI h) (tile m b (origin b c h))).2
  isplitl [Hp]; · iexact Hp
  iexact HslR

/-- The wait for the neighbour's copy: the slot it landed in, the cell closed, and that the neighbour has passed its
    barrier of this hop. -/
theorem wp_wait_recv {O : CellTallies nD τ sig ℕ} (hO : Above (2 * h.val + 2) O) {s : DmaSem sig} (hs : s = csemD b true h)
    {sp sp' : Space} {s₁ s₂ : Shape} {e₁ e₂ : EltTy} {κ' : Kind} {srcw : Memref sig (c : Thread nD τ).2.kind sp s₁ e₁} {dstw : Memref sig κ' sp' s₂ e₂}
    (hN : dstw.view.dmaCredit = cr b) {h1 : srcw.view.WordExact} {h2 : dstw.view.WordExact}
    {k : PUnit → Prog (TpuEff nD τ sig (Elt F) Λ₀ .tc) PUnit} {Q : PUnit → sProp 𝕄} :
    iprop(records m K ∗ owesAny c O ∗ cred (tallyAt (recvC b h c) 0 (cr b)) ∗ atPos ER (recvC b h c) 0 ∅ 0)
      ⊢ iprop(((owesAny c O ∗ semVal (recvC b h c) 0 ∗ slotAt fullShare b c (dstI h) (tile m b (origin b c (h.val + 1)))
            ∗ reached ER (barC (nb (!b) c)) (h.val + 1))
          -∗ wp frame (wpE (defs₀ (F := F)) 𝒱₀ c none) Set.univ (k ⟨⟩) Q)
        -∗ wp frame (wpE (defs₀ (F := F)) 𝒱₀ c none) Set.univ (.op (.waitDma2 s srcw dstw h1 h2) k) Q) := by
  subst hs
  unfold owesAny
  iintro ⟨#Hrec, ⟨%W, HO⟩, Hc, Hat⟩ Hk
  iapply (Rounds.wp_wait_rest_token 𝒱₀ ER (Rd m) (c : Thread nD τ) none (κ := K (c, some (b, true, h)))
      (wpE_waitDma2_eq 𝒱₀ (c : Thread nD τ) none Set.univ) (Set.mem_univ _) 0 (O := O) (W := W) (R := 0) (m := 0) (T := ∅)
      (by rw [Nat.zero_add]; exact hN.trans (expect_dma m c b true h).symm)) $$ [HO Hc Hat]
  · isplitr; · iapply (records_inv m K c (some (b, true, h))); iexact Hrec
    isplitl [Hc]; · rw [hN]; iexact Hc
    isplitl [HO]; · iexact HO
    isplitr
    · iapply (mayWait c (.dma (csemD b true h)) 0 (by decide) (n := 2 * h.val + 2) (le_of_eq (congrArg (lvOf · 0) (chanOf_csem (some (b, true, h))))) hO)
      iapply (records_lev m K); iexact Hrec
    iexact Hat
  iintro ⟨HO, Hat, -, Hp⟩
  ihave Hp := (Entails.of_eq ((rest_dma m c (b, true, h)).trans (pay_recv m c b h 0 false))) $$ Hp
  icases Hp with ⟨Hp, Hr⟩
  imod (Rounds.cell_close ER (Rd m) (Set.mem_univ (K (c, some (b, true, h)))) (fun h => h) (R := 0 + 1) (duties_later_dma m c (b, true, h))) $$ [Hat] with Hz
  · isplitr; · iapply (records_inv m K c (some (b, true, h))); iexact Hrec
    iexact Hat
  iapply Hk
  isplitl [HO]; · iexists _; iexact HO
  isplitl [Hz]; · iexact Hz
  isplitl [Hp] <;> iassumption

end Steps

end Cert.KernelIdeal.RingProof
-- ==== Proof.RingIdeal.Local.lean ====
/-
  The steps that a device takes by itself: a copy within the device, "fetch a block, narrow it and keep it", and "multiply
  a slot by the right matrix and copy the product to its rows of the result". The result is followed as the set of blocks
  of 1536 rows that are already right.
-/
module

public import proofs.«01_k».proof.Proof.RingIdeal.Steps

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The result -/

/-- Rows `1536 k` to `1536 (k + 1)` of device `c`'s result: half `k % 2` of device `k / 2`'s rows by the right matrix. -/
def outBlk (c : Dev nD) (k : Fin 8) : Vec F S1536x3072 .f32 :=
  prod m (decide (k.val % 2 = 1)) ⟨k.val / 2, by have := k.isLt; show k.val / 2 < 4; omega⟩ c

/-- Device `c`'s whole result. -/
def out (c : Dev nD) : Vec F S12288x3072 .f32 := fun y =>
  outBlk m c ⟨(y (0 : Fin 2)).val / 1536, by have : (y (0 : Fin 2)).val < 12288 := (y (0 : Fin 2)).isLt; omega⟩
    (Fin.cons ⟨(y (0 : Fin 2)).val % 1536, Nat.mod_lt _ (by decide)⟩ (Fin.cons ⟨(y (1 : Fin 2)).val, (y (1 : Fin 2)).isLt⟩ finZeroElim))

/-- `Y` is right on the blocks in `S`. -/
def Agrees (c : Dev nD) (S : Finset (Fin 8)) (Y : Vec F S12288x3072 .f32) : Prop :=
  ∀ y : S12288x3072.Idx, ∀ k ∈ S, (y (0 : Fin 2)).val / 1536 = k.val → Y y = out m c y

theorem Agrees.univ {c : Dev nD} {Y : Vec F S12288x3072 .f32} (h : Agrees m c Finset.univ Y) : Y = out m c := funext fun y =>
  h y ⟨(y (0 : Fin 2)).val / 1536, by have : (y (0 : Fin 2)).val < 12288 := (y (0 : Fin 2)).isLt; omega⟩ (Finset.mem_univ _) rfl

theorem out_inb (k : Fin 8) : ∀ a, (![1536 * k.val, 0] : Fin 2 → ℕ) a + S1536x3072.size a ≤ S12288x3072.size a := by
  revert k; decide

/-- Putting block `k` in its place makes it right and disturbs no other. -/
theorem Agrees.put {c : Dev nD} {S : Finset (Fin 8)} {Y : Vec F S12288x3072 .f32} (h : Agrees m c S Y) (k : Fin 8) :
    Agrees m c (insert k S) (VecWindow.put Y ![1536 * k.val, 0] S1536x3072.size (outBlk m c k)) := fun y j hj hy => by
  have h1 : (y (1 : Fin 2)).val < 3072 := (y (1 : Fin 2)).isLt
  by_cases hin : ∀ a, (![1536 * k.val, 0] : Fin 2 → ℕ) a ≤ (y a).val ∧ (y a).val < (![1536 * k.val, 0] : Fin 2 → ℕ) a + S1536x3072.size a
  · have h0 : 1536 * k.val ≤ (y (0 : Fin 2)).val ∧ (y (0 : Fin 2)).val < 1536 * k.val + 1536 := hin 0
    have hk : (y (0 : Fin 2)).val / 1536 = k.val := by omega
    refine (dif_pos hin).trans ?_
    unfold out
    have e : (⟨(y (0 : Fin 2)).val / 1536, by omega⟩ : Fin 8) = k := Fin.ext hk
    rw [e]
    refine congrArg (outBlk m c k) (funext fun a => Fin.ext ?_)
    refine Fin.cases ?_ (fun a => Fin.cases ?_ (fun a => a.elim0) a) a
    · show (y (0 : Fin 2)).val - 1536 * k.val = (y (0 : Fin 2)).val % 1536
      omega
    · show (y (1 : Fin 2)).val - 0 = (y (1 : Fin 2)).val
      omega
  · refine (dif_neg hin).trans (h y j ?_ hy)
    refine (Finset.mem_insert.mp hj).resolve_left fun e => hin ?_
    subst e
    intro a
    refine Fin.cases ?_ (fun a => Fin.cases ?_ (fun a => a.elim0) a) a
    · show 1536 * j.val ≤ (y (0 : Fin 2)).val ∧ (y (0 : Fin 2)).val < 1536 * j.val + 1536
      omega
    · show 0 ≤ (y (1 : Fin 2)).val ∧ (y (1 : Fin 2)).val < 0 + 3072
      omega

/-- The result buffer, right on the blocks in `S`. -/
def outSome (c : Dev nD) (S : Finset (Fin 8)) : sProp 𝕄 :=
  iprop(∃ Y : Vec F S12288x3072 .f32, ⌜Agrees m c S Y⌝ ∗ oM.view.loc (c : Thread nD τ) ↦[Finset.univ]{fullShare} Y)

/-- A buffer whole, whatever it holds. -/
def anyBuf (c : Dev nD) {s : Shape} {e : EltTy} (M : Memref sig .tc .vmem s e) : sProp 𝕄 :=
  iprop(∃ f : Buf (Elt F) (M.view.loc (c : Thread nD τ)), M.view.loc (c : Thread nD τ) ↦[Finset.univ]{fullShare} f)

/-- Storing all of a memref leaves what was stored. -/
theorem read_store_full {sp : Space} {s : Shape} {e : EltTy} (M : Memref sig .tc sp s e) (f : M.view.ty.Contents (Elt F)) {off : Fin s.rank → ℕ}
    (inb : ∀ a, off a + s.size a ≤ s.size a) (w : s.Idx → Elt F e) :
    M.view.read (Elt F) ((M.access (Rect.unit off s.size inb)).write (Elt F) f w Finset.univ) = w :=
  View.read_writes_full M.view f inb w []

/-- Writing a slice of a whole buffer puts the payload in its window. -/
theorem write_slice_whole (β : Ref sig .tc) (f : β.ty.Contents (Elt F)) {off size : Fin β.ty.shape.rank → ℕ}
    (inb : ∀ a, off a + size a ≤ β.ty.shape.size a) (hu : ∀ a, (Rect.unit off size inb).stride a = 1) (w : (Rect.unit off size inb).shape.Idx → Elt F β.ty.elt) :
    ((Memref.whole β).slice (Rect.unit off size inb) hu).view.write (Elt F) f w Finset.univ = VecWindow.put f off size w :=
  View.read_writes_cons_put (Memref.whole β).view f inb w [] rfl

section Steps

variable (K : Dev nD × Chan → ℕ) (c : Dev nD) (b : Bool)

abbrev EC : UEmb Counters 𝕄 := countersEmb

/-- A copy within the device, and the wait for it. -/
theorem wp_local {O : CellTallies nD τ sig ℕ} (hO : Above 0 O) {sp sp' : Space} {s : Shape} {e : EltTy}
    {src : Memref sig (c : Thread nD τ).2.kind sp s e} {dst : Memref sig (c : Thread nD τ).2.kind sp' s e} {q : DmaSem sig} (hq : lvOf (chanOf (.dma q)) 0 = 0)
    {Ss : Finset (Idx (src.view.loc (c : Thread nD τ)))} {fs : Buf (Elt F) (src.view.loc (c : Thread nD τ))} (hSs : src.view.set ⊆ Ss)
    {Sd : Finset (Idx (dst.view.loc (c : Thread nD τ)))} {fd : Buf (Elt F) (dst.view.loc (c : Thread nD τ))} (hSd : dst.view.set ⊆ Sd)
    (h0 : 0 < dst.view.dmaCredit)
    {hsrc : src.view.WordExact} {hdst : dst.view.WordExact} {hsem : DmaTarget.Typed (nD := nD) sp (.dma q) (.here dst)}
    {h1 : src.view.WordExact} {h2 : dst.view.WordExact}
    {k : PUnit → Prog (TpuEff nD τ sig (Elt F) Λ₀ .tc) PUnit} {Q : PUnit → sProp 𝕄} :
    iprop(records m K ∗ owesAny c O ∗ semVal ((c : Thread nD τ), .dma q) 0
        ∗ (src.view.loc (c : Thread nD τ) ↦[Ss]{fullShare} fs) ∗ dst.view.loc (c : Thread nD τ) ↦[Sd]{fullShare} fd)
      ⊢ iprop(((owesAny c O ∗ semVal ((c : Thread nD τ), .dma q) 0 ∗ (src.view.loc (c : Thread nD τ) ↦[Ss]{fullShare} fs)
            ∗ dst.view.loc (c : Thread nD τ) ↦[Sd]{fullShare} (dst.view.write (Elt F) fd (src.view.read (Elt F) fs) Finset.univ))
          -∗ wp frame (wpE (defs₀ (F := F)) 𝒱₀ c none) Set.univ (k ⟨⟩) Q)
        -∗ wp frame (wpE (defs₀ (F := F)) 𝒱₀ c none) Set.univ
            (.op (.enqueueDma src (.here dst) (.dma q) hsrc hdst hsem) fun _ => .op (.waitDma2 q src dst h1 h2) k) Q) := by
  unfold owesAny
  iintro ⟨#Hrec, ⟨%W, HO⟩, Hv, Hs, Hd⟩ Hk
  ihave Hs := (pointsTo_split_subset hSs).1 $$ Hs
  icases Hs with ⟨Hs, Hs'⟩
  iapply (Transfers.wp_dmaLocal (EC (F := F)) 𝒱₀ (c : Thread nD τ) none (src := src) (dst := dst) (sm := .dma q) (q := fullShare) (fs := fs) (fd := fd)
      0 dst.view.dmaCredit rfl h0 hSd) $$ [Hs Hd Hv]
  · isplitl [Hs]; · iexact Hs
    isplitl [Hd] <;> iassumption
  iintro Hf
  iapply (Transfers.wp_waitLocalO (EC (F := F)) 𝒱₀ (c : Thread nD τ) none 0 (N := dst.view.dmaCredit) rfl (O := O) (W := W)) $$ [Hf HO]
  · isplitl [Hf]; · iexact Hf
    isplitl [HO]; · iexact HO
    iapply (mayWait c (.dma q) 0 (by decide) (n := 0) (le_of_eq hq) hO)
    iapply (records_lev m K); iexact Hrec
  iintro ⟨⟨Hd, Hs⟩, Hv, HO⟩
  iapply Hk
  isplitl [HO]; · iexists _; iexact HO
  isplitl [Hv]; · iexact Hv
  isplitl [Hs Hs']
  · iapply (pointsTo_split_subset hSs).2
    isplitl [Hs] <;> iassumption
  iexact Hd

theorem ldS_local : lvOf (chanOf (.dma ldS)) 0 = 0 := rfl
theorem stS_local : lvOf (chanOf (.dma stS)) 0 = 0 := rfl

/-- Fetch a block into the staging buffer, narrow it, and store it through rectangle `r` of `T`. -/
theorem wp_fill {O : CellTallies nD τ sig ℕ} (hO : Above 0 O)
    {src : Memref sig (c : Thread nD τ).2.kind .hbm S1536x1536 .f32} {fs : Buf (Elt F) (src.view.loc (c : Thread nD τ))}
    {s : Shape} {e : EltTy} {T : Memref sig (c : Thread nD τ).2.kind .vmem s e} {r : Rect s}
    {S : Finset (Idx (T.view.loc (c : Thread nD τ)))} {f : Buf (Elt F) (T.view.loc (c : Thread nD τ))} (hS : (T.access r).set ⊆ S)
    {M : Memref sig (c : Thread nD τ).2.kind .vmem S1536x1536 .f32} (hM : M = stM)
    {inb : ∀ a, (![0, 0] : Fin 2 → ℕ) a + S1536x1536.size a ≤ S1536x1536.size a}
    {pay : (S1536x1536.Idx → Elt F .f32) → r.shape.Idx → Elt F e}
    {hsrc : src.view.WordExact} {hdst : M.view.WordExact} {hsem : DmaTarget.Typed (nD := nD) .hbm (.dma ldS) (.here M)}
    {h1 : src.view.WordExact} {h2 : M.view.WordExact} {hl : M.view.LoadsAt (Rect.unit (s := S1536x1536) ![0, 0] S1536x1536.size inb).toLoadRect}
    {hl' : T.view.LoadsAt r.toLoadRect} {hx : (T.access r).Stores Finset.univ} {hm : (Finset.univ : Finset r.shape.Idx) = Finset.univ ∨ ∀ a, r.stride a = 1}
    {k : PUnit → Prog (TpuEff nD τ sig (Elt F) Λ₀ .tc) PUnit} {Q : PUnit → sProp 𝕄} :
    iprop(records m K ∗ owesAny c O ∗ semVal ((c : Thread nD τ), .dma ldS) 0
        ∗ (src.view.loc (c : Thread nD τ) ↦[Finset.univ]{fullShare} fs) ∗ anyBuf c stM ∗ T.view.loc (c : Thread nD τ) ↦[S]{fullShare} f)
      ⊢ iprop(((owesAny c O ∗ semVal ((c : Thread nD τ), .dma ldS) 0 ∗ (src.view.loc (c : Thread nD τ) ↦[Finset.univ]{fullShare} fs) ∗ anyBuf c stM
            ∗ T.view.loc (c : Thread nD τ) ↦[S]{fullShare} ((T.access r).write (Elt F) f (pay (src.view.read (Elt F) fs)) Finset.univ))
          -∗ wp frame (wpE (defs₀ (F := F)) 𝒱₀ c none) Set.univ (k ⟨⟩) Q)
        -∗ wp frame (wpE (defs₀ (F := F)) 𝒱₀ c none) Set.univ
            (.op (.enqueueDma src (.here M) (.dma ldS) hsrc hdst hsem) fun _ => .op (.waitDma2 ldS src M h1 h2) fun _ =>
              .op (.load M (Rect.unit (s := S1536x1536) ![0, 0] S1536x1536.size inb).toLoadRect hl) fun x =>
              .op (.load T r.toLoadRect hl') fun _ => .op (.store T r (pay x) Finset.univ hx hm) k) Q) := by
  subst hM
  unfold anyBuf
  iintro ⟨#Hrec, HO, Hv, Hs, ⟨%g, Hst⟩, Hd⟩ Hk
  iapply (wp_local m K c hO ldS_local (Finset.subset_univ _) (Finset.subset_univ _) (View.dmaCredit_pos _ (by decide))) $$ [HO Hv Hs Hst]
  · isplitr; · iexact Hrec
    isplitl [HO]; · iexact HO
    isplitl [Hv]; · iexact Hv
    isplitl [Hs] <;> iassumption
  iintro ⟨HO, Hv, Hs, Hst⟩
  iapply (wp_load 𝒱₀ (c : Thread nD τ) none Set.univ (m := stM) (Finset.subset_univ _)) $$ Hst; iintro Hst
  rw [View.readAt_full, View.read_write_univ]
  iapply (wp_load_rect 𝒱₀ (c : Thread nD τ) none Set.univ (m := T) (r := r) hS) $$ Hd; iintro Hd
  iapply (wp_store 𝒱₀ (c : Thread nD τ) none Set.univ (m := T) (r := r) (Mk := Finset.univ) hS) $$ Hd; iintro Hd
  iapply Hk
  isplitl [HO]; · iexact HO
  isplitl [Hv]; · iexact Hv
  isplitl [Hs]; · iexact Hs
  isplitl [Hst]; · iexists _; iexact Hst
  iexact Hd

/-- Multiply slot `i` of stream `b` by the right matrix and copy the product to block `k` of the result. -/
theorem wp_compute {O : CellTallies nD τ sig ℕ} (hO : Above 0 O) (i : Fin 2) (X : Vec F S1x1536x1536 .bf16) (q : PosShare TreeShare) (j : Fin 8)
    {S : Finset (Fin 8)} {pay : (S1x1536x1536.Idx → Elt F .bf16) → (S1536x3072.Idx → Elt F .bf16) → S1536x3072.Idx → Elt F .f32}
    (hpay : pay X (bNar m c) = outBlk m c j)
    {M : Memref sig (c : Thread nD τ).2.kind .vmem S2x1536x1536 .bf16} (hM : M = cm b) {o1 : Fin 3 → ℕ}
    {inb1 : ∀ a, o1 a + S1x1536x1536.size a ≤ S2x1536x1536.size a} (ho1 : o1 = ![i.val, 0, 0])
    {inb2 : ∀ a, (![0, 0] : Fin 2 → ℕ) a + S1536x3072.size a ≤ S1536x3072.size a}
    {inb3 inb4 : ∀ a, (![0, 0] : Fin 2 → ℕ) a + S1536x3072.size a ≤ S1536x3072.size a}
    {off : Fin 2 → ℕ} {inb5 : ∀ a, off a + S1536x3072.size a ≤ S12288x3072.size a} (hoff : off = ![1536 * j.val, 0])
    {hu : ∀ a, (Rect.unit (s := S12288x3072) off S1536x3072.size inb5).stride a = 1}
    {D D' : Memref sig (c : Thread nD τ).2.kind .hbm S1536x3072 .f32} (hD : D = oM.slice (Rect.unit (s := S12288x3072) off S1536x3072.size inb5) hu) (hD' : D' = D)
    {C : Memref sig (c : Thread nD τ).2.kind .vmem S1536x3072 .f32} (hC : C = ctM)
    {hl1 : M.view.LoadsAt (Rect.unit (s := S2x1536x1536) o1 S1x1536x1536.size inb1).toLoadRect}
    {hl2 : wM.view.LoadsAt (Rect.unit (s := S1536x3072) ![0, 0] S1536x3072.size inb2).toLoadRect}
    {hl3 : C.view.LoadsAt (Rect.unit (s := S1536x3072) ![0, 0] S1536x3072.size inb3).toLoadRect}
    {hx : (C.access (Rect.unit (s := S1536x3072) ![0, 0] S1536x3072.size inb4)).Stores Finset.univ}
    {hm : (Finset.univ : Finset (Rect.unit (s := S1536x3072) ![0, 0] S1536x3072.size inb4).shape.Idx) = Finset.univ
        ∨ ∀ a, (Rect.unit (s := S1536x3072) ![0, 0] S1536x3072.size inb4).stride a = 1}
    {hsrc : C.view.WordExact} {hdst : D.view.WordExact}
    {hsem : DmaTarget.Typed (nD := nD) .vmem (.dma stS) (.here D)}
    {h1 : C.view.WordExact} {h2 : D'.view.WordExact}
    {k : PUnit → Prog (TpuEff nD τ sig (Elt F) Λ₀ .tc) PUnit} {Q : PUnit → sProp 𝕄} :
    iprop(records m K ∗ owesAny c O ∗ semVal ((c : Thread nD τ), .dma stS) 0 ∗ slotAt q b c i X
        ∗ (wM.view.loc (c : Thread nD τ) ↦[Finset.univ]{fullShare} bNar m c) ∗ anyBuf c ctM ∗ outSome m c S)
      ⊢ iprop(((owesAny c O ∗ semVal ((c : Thread nD τ), .dma stS) 0 ∗ slotAt q b c i X
        ∗ (wM.view.loc (c : Thread nD τ) ↦[Finset.univ]{fullShare} bNar m c) ∗ anyBuf c ctM ∗ outSome m c (insert j S))
          -∗ wp frame (wpE (defs₀ (F := F)) 𝒱₀ c none) Set.univ (k ⟨⟩) Q)
        -∗ wp frame (wpE (defs₀ (F := F)) 𝒱₀ c none) Set.univ
            (.op (.load M (Rect.unit (s := S2x1536x1536) o1 S1x1536x1536.size inb1).toLoadRect hl1) fun x =>
              .op (.load wM (Rect.unit (s := S1536x3072) ![0, 0] S1536x3072.size inb2).toLoadRect hl2) fun y =>
              .op (.load C (Rect.unit (s := S1536x3072) ![0, 0] S1536x3072.size inb3).toLoadRect hl3) fun _ =>
              .op (.store C (Rect.unit (s := S1536x3072) ![0, 0] S1536x3072.size inb4) (pay x y) Finset.univ hx hm) fun _ =>
              .op (.enqueueDma C (.here D) (.dma stS) hsrc hdst hsem) fun _ =>
              .op (.waitDma2 stS C D' h1 h2) k) Q) := by
  subst hD' hD hC hM ho1 hoff
  unfold anyBuf outSome
  iintro ⟨#Hrec, HO, Hv, Hsl, Hw, ⟨%g, Hct⟩, %Y, %hY, Ho⟩ Hk
  unfold slotAt
  iapply (wp_load_rect 𝒱₀ (c : Thread nD τ) none Set.univ (m := cm b) (r := Rect.unit (s := S2x1536x1536) ![i.val, 0, 0] S1x1536x1536.size inb1)
      (S := (sl b i).view.set) (f := (sl b i).view.rep X) (by exact subset_rfl)) $$ Hsl
  iintro Hsl
  iapply (wp_load 𝒱₀ (c : Thread nD τ) none Set.univ (m := wM) (Finset.subset_univ _)) $$ Hw; iintro Hw
  iapply (wp_load 𝒱₀ (c : Thread nD τ) none Set.univ (m := ctM) (Finset.subset_univ _)) $$ Hct; iintro Hct
  iapply (wp_store 𝒱₀ (c : Thread nD τ) none Set.univ (m := ctM) (r := Rect.unit (s := S1536x3072) ![0, 0] S1536x3072.size inb4) (Mk := Finset.univ)
      (Finset.subset_univ _)) $$ Hct
  iintro Hct
  iapply (wp_local m K c hO stS_local (src := ctM) (dst := oM.slice (Rect.unit (s := S12288x3072) ![1536 * j.val, 0] S1536x3072.size inb5) hu)
      (Finset.subset_univ _) (Finset.subset_univ _) (View.dmaCredit_pos _ (by decide))) $$ [HO Hv Hct Ho]
  · isplitr; · iexact Hrec
    isplitl [HO]; · iexact HO
    isplitl [Hv]; · iexact Hv
    isplitl [Hct] <;> iassumption
  iintro ⟨HO, Hv, Hct, Ho⟩
  iapply Hk
  isplitl [HO]; · iexact HO
  isplitl [Hv]; · iexact Hv
  isplitl [Hsl]; · iexact Hsl
  isplitl [Hw]; · iexact Hw
  isplitl [Hct]; · iexists _; iexact Hct
  iexists _
  isplitr [Ho]; swap; · iexact Ho
  ipureintro
  have e1 : ((cm b).access (Rect.unit (s := S2x1536x1536) ![i.val, 0, 0] S1x1536x1536.size inb1)).read (Elt F) ((sl b i).view.rep X) = X :=
    View.read_rep (sl b i).view X
  have e2 : wM.view.readAt (Elt F) (Rect.unit (s := S1536x3072) ![0, 0] S1536x3072.size inb2).toLoadRect (bNar m c) = bNar m c :=
    View.readAt_full _ _ _
  rw [e1, e2, hpay]
  have e3 := read_store_full ctM g inb4 (outBlk m c j)
  rw [e3]
  have e4 := write_slice_whole main_v1 Y inb5 hu (outBlk m c j)
  rw [e4]
  exact hY.put m j

end Steps

end Cert.KernelIdeal.RingProof
-- ==== Proof.RingIdeal.Hop.lean ====
/-
  The compound steps of a hop: its barrier and its two copies, and its four waits; what a device holds for a hop; the two
  slots as one buffer; and what the staged blocks come to.
-/
module

public import proofs.«01_k».proof.Proof.RingIdeal.Local
public import Idealize.ShloMosaic.Lib.Pointwise.Reshape

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The slots as one buffer -/

theorem slot_axis (b : Bool) (i : Fin 2) (y : S2x1536x1536.Idx) :
    y ∈ (Rect.unit (s := S2x1536x1536) ![i.val, 0, 0] S1x1536x1536.size (slot_inb i)).set ↔ (y (0 : Fin 3)).val = i.val := by
  rw [Rect.mem_set_unit]
  have h1 : (y (1 : Fin 3)).val < 1536 := (y (1 : Fin 3)).isLt
  have h2 : (y (2 : Fin 3)).val < 1536 := (y (2 : Fin 3)).isLt
  constructor
  · intro h
    have h0 : i.val ≤ (y (0 : Fin 3)).val ∧ (y (0 : Fin 3)).val < i.val + 1 := h 0
    omega
  · intro h a
    refine Fin.cases ?_ (fun a => Fin.cases ?_ (fun a => Fin.cases ?_ (fun a => a.elim0) a) a) a
    · show i.val ≤ (y (0 : Fin 3)).val ∧ (y (0 : Fin 3)).val < i.val + 1
      omega
    · show 0 ≤ (y (1 : Fin 3)).val ∧ (y (1 : Fin 3)).val < 0 + 1536
      omega
    · show 0 ≤ (y (2 : Fin 3)).val ∧ (y (2 : Fin 3)).val < 0 + 1536
      omega

theorem slot_set_false (i : Fin 2) : (sl false i).view.set = (Rect.unit (s := S2x1536x1536) ![i.val, 0, 0] S1x1536x1536.size (slot_inb i)).set :=
  View.set_slice_whole cc0_scratch2 _
theorem slot_set_true (i : Fin 2) : (sl true i).view.set = (Rect.unit (s := S2x1536x1536) ![i.val, 0, 0] S1x1536x1536.size (slot_inb i)).set :=
  View.set_slice_whole cc0_scratch3 _

theorem rects_disjoint : Disjoint (Rect.unit (s := S2x1536x1536) ![(0 : Fin 2).val, 0, 0] S1x1536x1536.size (slot_inb 0)).set
    (Rect.unit (s := S2x1536x1536) ![(1 : Fin 2).val, 0, 0] S1x1536x1536.size (slot_inb 1)).set :=
  Finset.disjoint_left.mpr fun y h0 h1 => by
    rw [slot_axis false] at h0 h1
    exact absurd (h0.symm.trans h1) (by decide)
theorem rects_cover : (Rect.unit (s := S2x1536x1536) ![(0 : Fin 2).val, 0, 0] S1x1536x1536.size (slot_inb 0)).set
    ∪ (Rect.unit (s := S2x1536x1536) ![(1 : Fin 2).val, 0, 0] S1x1536x1536.size (slot_inb 1)).set = Finset.univ :=
  Finset.eq_univ_iff_forall.mpr fun y => by
    rw [Finset.mem_union, slot_axis false, slot_axis false]
    have : (y (0 : Fin 3)).val < 2 := (y (0 : Fin 3)).isLt
    show (y (0 : Fin 3)).val = 0 ∨ (y (0 : Fin 3)).val = 1
    omega

/-- Cutting a buffer held whole in two, and putting two halves together, for any buffer and two sets that partition it. -/
theorem halves_split {ℓ : Loc nD τ sig} {I J : Finset (Idx ℓ)} (hd : Disjoint I J) (hc : I ∪ J = Finset.univ) :
    (iprop(∃ f : Buf (Elt F) ℓ, ℓ ↦[Finset.univ]{fullShare} f) : sProp 𝕄)
      ⊢ iprop((∃ f : Buf (Elt F) ℓ, ℓ ↦[I]{fullShare} f) ∗ ∃ f : Buf (Elt F) ℓ, ℓ ↦[J]{fullShare} f) := by
  iintro ⟨%f, H⟩
  rw [← hc]
  ihave H := (pointsTo_union hd).1 $$ H
  icases H with ⟨H1, H2⟩
  isplitl [H1]
  · iexists f; iexact H1
  · iexists f; iexact H2
theorem halves_join {ℓ : Loc nD τ sig} {I J : Finset (Idx ℓ)} (hd : Disjoint I J) (hc : I ∪ J = Finset.univ) :
    iprop((∃ f : Buf (Elt F) ℓ, ℓ ↦[I]{fullShare} f) ∗ ∃ f : Buf (Elt F) ℓ, ℓ ↦[J]{fullShare} f)
      ⊢ (iprop(∃ f : Buf (Elt F) ℓ, ℓ ↦[Finset.univ]{fullShare} f) : sProp 𝕄) := by
  iintro ⟨⟨%f, H1⟩, %g, H2⟩
  iexists (J.piecewise g f)
  rw [← hc]
  iapply (pointsTo_join hd)
  isplitl [H1] <;> iassumption

theorem slots_split (b : Bool) (c : Dev nD) : anyBuf c (cm b) ⊢ iprop(slotAny (F := F) b c 0 ∗ slotAny b c 1) := by
  unfold anyBuf slotAny
  cases b
  · rw [slot_set_false, slot_set_false]
    exact halves_split (ℓ := (c : Thread nD τ).loc cc0_scratch2) rects_disjoint rects_cover
  · rw [slot_set_true, slot_set_true]
    exact halves_split (ℓ := (c : Thread nD τ).loc cc0_scratch3) rects_disjoint rects_cover
theorem slots_join (b : Bool) (c : Dev nD) : iprop(slotAny (F := F) b c 0 ∗ slotAny b c 1) ⊢ anyBuf c (cm b) := by
  unfold anyBuf slotAny
  cases b
  · rw [slot_set_false, slot_set_false]
    exact halves_join (ℓ := (c : Thread nD τ).loc cc0_scratch2) rects_disjoint rects_cover
  · rw [slot_set_true, slot_set_true]
    exact halves_join (ℓ := (c : Thread nD τ).loc cc0_scratch3) rects_disjoint rects_cover

/-! ## What is staged -/

/-- A slot just stored holds what was stored. -/
theorem slot_of_store (b : Bool) (c : Dev nD) (i : Fin 2) {inb : ∀ a, (![i.val, 0, 0] : Fin 3 → ℕ) a + S1x1536x1536.size a ≤ S2x1536x1536.size a}
    (f : Buf (Elt F) ((cm b).view.loc (c : Thread nD τ))) (w : Vec F S1x1536x1536 .bf16) :
    ((cm b).view.loc (c : Thread nD τ) ↦[(sl b i).view.set]{fullShare}
        (((cm b).access (Rect.unit (s := S2x1536x1536) ![i.val, 0, 0] S1x1536x1536.size inb)).write (Elt F) f w Finset.univ) : sProp 𝕄)
      ⊢ slotAt fullShare b c i w := by
  unfold slotAt
  exact pointsTo_rep_of_read (c : Thread nD τ) (sl b i) _ fullShare w (Memref.read_slice_write (cm b) inb rfl (slot_inb i) f w)

/-- The two halves of the right matrix, narrowed and stored side by side, are the right matrix narrowed. -/
theorem wHalves (c : Dev nD) (f : Vec F S1536x3072 .bf16)
    {i0 : ∀ a, (![0, 0] : Fin 2 → ℕ) a + S1536x1536.size a ≤ S1536x3072.size a} {i1 : ∀ a, (![0, 1536] : Fin 2 → ℕ) a + S1536x1536.size a ≤ S1536x3072.size a} :
    VecWindow.put (VecWindow.put f ![0, 0] S1536x1536.size (k0_pay5 (VecWindow.window (bV m c) ![0, 0] S1536x1536.size i0))) ![0, 1536] S1536x1536.size
      (k0_pay6 (VecWindow.window (bV m c) ![0, 1536] S1536x1536.size i1)) = bNar m c := by
  funext y
  have h0 : (y (0 : Fin 2)).val < 1536 := (y (0 : Fin 2)).isLt
  have h1 : (y (1 : Fin 2)).val < 3072 := (y (1 : Fin 2)).isLt
  have key : ∀ (o : Fin 2 → ℕ) (io : ∀ a, o a + S1536x1536.size a ≤ S1536x3072.size a)
      (h : ∀ a, o a ≤ (y a).val ∧ (y a).val < o a + S1536x1536.size a),
      truncf .bf16 (VecWindow.window (bV m c) o S1536x1536.size io) bitsLt_bf16_f32 (Rect.unitLocal (s := S1536x3072) (off := o) (size := S1536x1536.size) y h)
        = bNar m c y := fun o io h => by
    refine congrArg (fun x => FloatOps.truncf .bf16 bitsLt_bf16_f32 (bV m c x)) (funext fun a => Fin.ext ?_)
    show o a + 1 * ((y a).val - o a) = (y a).val
    have := (h a).1
    omega
  by_cases hr : 1536 ≤ (y (1 : Fin 2)).val
  · have hin : ∀ a, (![0, 1536] : Fin 2 → ℕ) a ≤ (y a).val ∧ (y a).val < (![0, 1536] : Fin 2 → ℕ) a + S1536x1536.size a := fun a => by
      refine Fin.cases ?_ (fun a => Fin.cases ?_ (fun a => a.elim0) a) a
      · show 0 ≤ (y (0 : Fin 2)).val ∧ (y (0 : Fin 2)).val < 0 + 1536
        omega
      · show 1536 ≤ (y (1 : Fin 2)).val ∧ (y (1 : Fin 2)).val < 1536 + 1536
        omega
    refine (dif_pos hin).trans ?_
    unfold k0_pay6
    dsimp only
    rw [shapeCast_id]
    exact key _ i1 hin
  · have hout : ¬ ∀ a, (![0, 1536] : Fin 2 → ℕ) a ≤ (y a).val ∧ (y a).val < (![0, 1536] : Fin 2 → ℕ) a + S1536x1536.size a := fun h => hr (h 1).1
    have hin : ∀ a, (![0, 0] : Fin 2 → ℕ) a ≤ (y a).val ∧ (y a).val < (![0, 0] : Fin 2 → ℕ) a + S1536x1536.size a := fun a => by
      refine Fin.cases ?_ (fun a => Fin.cases ?_ (fun a => a.elim0) a) a
      · show 0 ≤ (y (0 : Fin 2)).val ∧ (y (0 : Fin 2)).val < 0 + 1536
        omega
      · show 0 ≤ (y (1 : Fin 2)).val ∧ (y (1 : Fin 2)).val < 0 + 1536
        omega
    refine (dif_neg hout).trans ((dif_pos hin).trans ?_)
    unfold k0_pay5
    dsimp only
    rw [shapeCast_id]
    exact key _ i0 hin

/-! ## A hop -/

/-- What device `c` holds from the start for stream `b` at hop `h`: the tokens of its copy, its places on the two cells it
    waits on, and the credit for the copy it will receive. -/
def strGhost (c : Dev nD) (h : Fin 3) (b : Bool) : sProp 𝕄 :=
  iprop(dutyTok ER (sendC b h c) 0 false ∗ dutyTok ER (recvC b h (nb b c)) 0 false ∗ atPos ER (sendC b h c) 0 ∅ 0 ∗ atPos ER (recvC b h c) 0 ∅ 0
    ∗ cred (tallyAt (recvC b h c) 0 (cr b)))

/-- What it holds for the hop. -/
def hopGhost (c : Dev nD) (h : Fin 3) : sProp 𝕄 :=
  iprop(barTok c h true ∗ barTok c h false ∗ cred (tallyAt (barC c) h.val 2) ∗ strGhost c h false ∗ strGhost c h true)

/-- What it holds between a hop's copies and their waits. -/
def midGhost (c : Dev nD) (h : Fin 3) (b : Bool) : sProp 𝕄 :=
  iprop(atPos ER (sendC b h c) 0 ∅ 0 ∗ atPos ER (recvC b h c) 0 ∅ 0 ∗ cred (tallyAt (recvC b h c) 0 (cr b)) ∗ cred (tallyAt (sendC b h c) 0 (cr b)))

/-- The cells of a stream at a hop, closed. -/
def doneSems (c : Dev nD) (h : Fin 3) (b : Bool) : sProp 𝕄 := iprop(semVal (sendC b h c) 0 ∗ semVal (recvC b h c) 0)

section Steps

variable (K : Dev nD × Chan → ℕ) (c : Dev nD) (h : Fin 3)

/-- The barrier of a hop and its two copies. Given that both neighbours have reached this round of their barriers. -/
theorem wp_hop_start {O : CellTallies nD τ sig ℕ} (hO : Above (2 * h.val + 1) O)
    {n1 n2 n3 n4 : Dev nD} (hn1 : n1 = nb true c) (hn2 : n2 = nb false c) (hn3 : n3 = nb false c) (hn4 : n4 = nb true c)
    {s1 s2 s3 : Sem sig} (hs1 : s1 = barS) (hs2 : s2 = barS) (hs3 : s3 = barS) {a1 a2 a3 : ℕ} (ha1 : a1 = 1) (ha2 : a2 = 1) (ha3 : a3 = 2)
    {src : Memref sig (c : Thread nD τ).2.kind .vmem S1536x1536 .bf16} {dst : Memref sig (Dev.tc n3 : Thread nD τ).2.kind .vmem S1536x1536 .bf16} {sS sR : SemLoc sig}
    {src' : Memref sig (c : Thread nD τ).2.kind .vmem S1536x1536 .bf16} {dst' : Memref sig (Dev.tc n4 : Thread nD τ).2.kind .vmem S1536x1536 .bf16} {sS' sR' : SemLoc sig}
    (e1 : src = sq false (srcI h)) (e2 : dst = sq false (dstI h)) (e3 : sS = .dma (csemD false false h)) (e4 : sR = .dma (csemD false true h))
    (e1' : src' = sq true (srcI h)) (e2' : dst' = sq true (dstI h)) (e3' : sS' = .dma (csemD true false h)) (e4' : sR' = .dma (csemD true true h))
    {hsc : dst.view.ref.isScScratch = false} {hsrc : src.view.WordExact} {hdst : dst.view.WordExact}
    {hsem : DmaTarget.Typed .vmem sR (.remote (Dev.tc n3) dst sS hsc)}
    {hsc' : dst'.view.ref.isScScratch = false} {hsrc' : src'.view.WordExact} {hdst' : dst'.view.WordExact}
    {hsem' : DmaTarget.Typed .vmem sR' (.remote (Dev.tc n4) dst' sS' hsc')}
    {k : PUnit → Prog (TpuEff nD τ sig (Elt F) Λ₀ .tc) PUnit} {Q : PUnit → sProp 𝕄} :
    iprop(records m K ∗ owesAny c (oweH c h O) ∗ hopGhost c h ∗ atPos ER (barC c) h.val ∅ 0
        ∗ (reached ER (barC (nb true c)) h.val ∗ reached ER (barC (nb false c)) h.val)
        ∗ (slotAt fullShare false c (srcI h) (tile m false (origin false c h)) ∗ slotAt fullShare true c (srcI h) (tile m true (origin true c h)))
        ∗ slotAny false c (dstI h) ∗ slotAny true c (dstI h))
      ⊢ iprop(((owesAny c O ∗ (midGhost c h false ∗ midGhost c h true) ∗ atPos ER (barC c) (h.val + 1) ∅ 0
            ∗ slotAt fullShare.right false c (srcI h) (tile m false (origin false c h)) ∗ slotAt fullShare.right true c (srcI h) (tile m true (origin true c h)))
          -∗ wp frame (wpE (defs₀ (F := F)) 𝒱₀ c none) Set.univ (k ⟨⟩) Q)
        -∗ wp frame (wpE (defs₀ (F := F)) 𝒱₀ c none) Set.univ
            (.op (.semSignal (Dev.tc n1) s1 a1) fun _ => .op (.semSignal (Dev.tc n2) s2 a2) fun _ => .op (.semWait s3 a3) fun _ =>
              .op (.enqueueDma src (.remote (Dev.tc n3) dst sS hsc) sR hsrc hdst hsem) fun _ =>
              .op (.enqueueDma src' (.remote (Dev.tc n4) dst' sS' hsc') sR' hsrc' hdst' hsem') k) Q) := by
  unfold hopGhost strGhost midGhost
  iintro ⟨#Hrec, HO, ⟨HbT, HbF, HcB, ⟨HtS, HtR, HaS, HaR, HcR⟩, HtS', HtR', HaS', HaR', HcR'⟩, HaB, ⟨#HrT, #HrF⟩, ⟨Hf, Ht⟩, Hf1, Ht1⟩ Hk
  iapply (wp_bar_signal m K c h true (O := oweS c h O) rfl hn1 hs1 ha1) $$ [HO HbT Hf1]
  · isplitr; · iexact Hrec
    isplitl [HO]; · iexact HO
    isplitl [HbT]; · iexact HbT
    isplitr; · iexact HrT
    iexact Hf1
  iintro HO
  iapply (wp_bar_signal m K c h false (O := oweR c h O) rfl hn2 hs2 ha2) $$ [HO HbF Ht1]
  · isplitr; · iexact Hrec
    isplitl [HO]; · iexact HO
    isplitl [HbF]; · iexact HbF
    isplitr; · iexact HrF
    iexact Ht1
  iintro HO
  iapply (wp_bar_wait m K c h (Above.R c h hO (by omega)) hs3 ha3) $$ [HO HcB HaB]
  · isplitr; · iexact Hrec
    isplitl [HO]; · iexact HO
    isplitl [HcB] <;> iassumption
  iintro ⟨HO, HaB, #Hr, Hnf, Hnt⟩
  iapply (wp_hop_send m K c h false (O := oweL c h O) rfl hn3 e1 e2 e3 e4) $$ [HO HtS HtR Hf Hnf]
  · isplitr; · iexact Hrec
    isplitl [HO]; · iexact HO
    isplitl [HtS]; · iexact HtS
    isplitl [HtR]; · iexact HtR
    isplitl [Hf]; · iexact Hf
    isplitl [Hnf]; · iexact Hnf
    iexact Hr
  iintro ⟨HO, HcS, Hf⟩
  iapply (wp_hop_send m K c h true (O := O) rfl hn4 e1' e2' e3' e4') $$ [HO HtS' HtR' Ht Hnt]
  · isplitr; · iexact Hrec
    isplitl [HO]; · iexact HO
    isplitl [HtS']; · iexact HtS'
    isplitl [HtR']; · iexact HtR'
    isplitl [Ht]; · iexact Ht
    isplitl [Hnt]; · iexact Hnt
    iexact Hr
  iintro ⟨HO, HcS', Ht⟩
  iapply Hk
  isplitl [HO]; · iexact HO
  isplitr [HaB Hf Ht]
  · isplitl [HaS HaR HcR HcS]
    · isplitl [HaS]; · iexact HaS
      isplitl [HaR]; · iexact HaR
      isplitl [HcR] <;> iassumption
    · isplitl [HaS']; · iexact HaS'
      isplitl [HaR']; · iexact HaR'
      isplitl [HcR'] <;> iassumption
  isplitl [HaB]; · iexact HaB
  isplitl [Hf] <;> iassumption

/-- The four waits of a hop: the slots sent from are whole again, those received into hold the next half blocks, and both
    neighbours have reached the next round of their barriers. -/
theorem wp_hop_end {O : CellTallies nD τ sig ℕ} (hO : Above (2 * h.val + 2) O)
    {s1 s2 s3 s4 : DmaSem sig} (hs1 : s1 = csemD false false h) (hs2 : s2 = csemD false true h) (hs3 : s3 = csemD true false h) (hs4 : s4 = csemD true true h)
    {p1 p2 p3 p4 : Memref sig (c : Thread nD τ).2.kind .vmem S1536x1536 .bf16} {d1 d2 d3 d4 : Memref sig (c : Thread nD τ).2.kind .vmem S1536x1536 .bf16}
    (i1 i2 i3 i4 : Fin 2) (hd1 : d1 = sq false i1) (hd2 : d2 = sq false i2) (hd3 : d3 = sq true i3) (hd4 : d4 = sq true i4)
    {w1 : p1.view.WordExact} {w2 : p2.view.WordExact} {w3 : p3.view.WordExact} {w4 : p4.view.WordExact}
    {v1 : d1.view.WordExact} {v2 : d2.view.WordExact} {v3 : d3.view.WordExact} {v4 : d4.view.WordExact}
    {k : PUnit → Prog (TpuEff nD τ sig (Elt F) Λ₀ .tc) PUnit} {Q : PUnit → sProp 𝕄} :
    iprop(records m K ∗ owesAny c O ∗ (midGhost c h false ∗ midGhost c h true)
        ∗ slotAt fullShare.right false c (srcI h) (tile m false (origin false c h)) ∗ slotAt fullShare.right true c (srcI h) (tile m true (origin true c h)))
      ⊢ iprop(((owesAny c O ∗ (doneSems c h false ∗ doneSems c h true)
            ∗ (reached ER (barC (nb true c)) (h.val + 1) ∗ reached ER (barC (nb false c)) (h.val + 1))
            ∗ (slotAt fullShare false c (dstI h) (tile m false (origin false c (h.val + 1))) ∗ slotAt fullShare true c (dstI h) (tile m true (origin true c (h.val + 1))))
            ∗ slotAny false c (srcI h) ∗ slotAny true c (srcI h))
          -∗ wp frame (wpE (defs₀ (F := F)) 𝒱₀ c none) Set.univ (k ⟨⟩) Q)
        -∗ wp frame (wpE (defs₀ (F := F)) 𝒱₀ c none) Set.univ
            (.op (.waitDma2 s1 p1 d1 w1 v1) fun _ => .op (.waitDma2 s2 p2 d2 w2 v2) fun _ =>
              .op (.waitDma2 s3 p3 d3 w3 v3) fun _ => .op (.waitDma2 s4 p4 d4 w4 v4) k) Q) := by
  subst hd1 hd2 hd3 hd4
  unfold midGhost doneSems
  iintro ⟨#Hrec, HO, ⟨⟨HaS, HaR, HcR, HcS⟩, HaS', HaR', HcR', HcS'⟩, Hf, Ht⟩ Hk
  iapply (wp_wait_send m K c h false (hO.mono (Nat.zero_le _)) hs1 (cr_slot false i1)) $$ [HO HcS HaS Hf]
  · isplitr; · iexact Hrec
    isplitl [HO]; · iexact HO
    isplitl [HcS]; · iexact HcS
    isplitl [HaS] <;> iassumption
  iintro ⟨HO, HzS, Hf⟩
  iapply (wp_wait_recv m K c h false hO hs2 (cr_slot false i2)) $$ [HO HcR HaR]
  · isplitr; · iexact Hrec
    isplitl [HO]; · iexact HO
    isplitl [HcR] <;> iassumption
  iintro ⟨HO, HzR, Hf1, #Hr⟩
  iapply (wp_wait_send m K c h true (hO.mono (Nat.zero_le _)) hs3 (cr_slot true i3)) $$ [HO HcS' HaS' Ht]
  · isplitr; · iexact Hrec
    isplitl [HO]; · iexact HO
    isplitl [HcS']; · iexact HcS'
    isplitl [HaS'] <;> iassumption
  iintro ⟨HO, HzS', Ht⟩
  iapply (wp_wait_recv m K c h true hO hs4 (cr_slot true i4)) $$ [HO HcR' HaR']
  · isplitr; · iexact Hrec
    isplitl [HO]; · iexact HO
    isplitl [HcR'] <;> iassumption
  iintro ⟨HO, HzR', Ht1, #Hr'⟩
  iapply Hk
  isplitl [HO]; · iexact HO
  isplitl [HzS HzR HzS' HzR']
  · isplitl [HzS HzR]
    · isplitl [HzS] <;> iassumption
    · isplitl [HzS'] <;> iassumption
  isplitr
  · isplitr
    · iexact Hr
    · iexact Hr'
  isplitl [Hf1 Ht1]
  · isplitl [Hf1] <;> iassumption
  isplitl [Hf]
  · iapply (slotAt_any false c (srcI h) (tile m false (origin false c h))) $$ Hf
  · iapply (slotAt_any true c (srcI h) (tile m true (origin true c h))) $$ Ht

/-- Fetch a block, narrow it and keep it in slot `i` of stream `b`. -/
theorem wp_fill_slot (b : Bool) (i : Fin 2) {O : CellTallies nD τ sig ℕ} (hO : Above 0 O) (X : Vec F S1x1536x1536 .bf16)
    {src : Memref sig (c : Thread nD τ).2.kind .hbm S1536x1536 .f32} {fs : Buf (Elt F) (src.view.loc (c : Thread nD τ))}
    {T : Memref sig (c : Thread nD τ).2.kind .vmem S2x1536x1536 .bf16} (hT : T = cm b) {o : Fin 3 → ℕ}
    {inb' : ∀ a, o a + S1x1536x1536.size a ≤ S2x1536x1536.size a} (ho : o = ![i.val, 0, 0])
    {M : Memref sig (c : Thread nD τ).2.kind .vmem S1536x1536 .f32} (hM : M = stM)
    {inb : ∀ a, (![0, 0] : Fin 2 → ℕ) a + S1536x1536.size a ≤ S1536x1536.size a}
    (pay : (S1536x1536.Idx → Elt F .f32) → S1x1536x1536.Idx → Elt F .bf16) (hv : pay (src.view.read (Elt F) fs) = X)
    {hsrc : src.view.WordExact} {hdst : M.view.WordExact} {hsem : DmaTarget.Typed (nD := nD) .hbm (.dma ldS) (.here M)}
    {h1 : src.view.WordExact} {h2 : M.view.WordExact} {hl : M.view.LoadsAt (Rect.unit (s := S1536x1536) ![0, 0] S1536x1536.size inb).toLoadRect}
    {hl' : T.view.LoadsAt (Rect.unit (s := S2x1536x1536) o S1x1536x1536.size inb').toLoadRect}
    {hx : (T.access (Rect.unit (s := S2x1536x1536) o S1x1536x1536.size inb')).Stores Finset.univ}
    {hm : (Finset.univ : Finset (Rect.unit (s := S2x1536x1536) o S1x1536x1536.size inb').shape.Idx) = Finset.univ
        ∨ ∀ a, (Rect.unit (s := S2x1536x1536) o S1x1536x1536.size inb').stride a = 1}
    {k : PUnit → Prog (TpuEff nD τ sig (Elt F) Λ₀ .tc) PUnit} {Q : PUnit → sProp 𝕄} :
    iprop(records m K ∗ owesAny c O ∗ semVal ((c : Thread nD τ), .dma ldS) 0
        ∗ (src.view.loc (c : Thread nD τ) ↦[Finset.univ]{fullShare} fs) ∗ anyBuf c stM ∗ slotAny b c i)
      ⊢ iprop(((owesAny c O ∗ semVal ((c : Thread nD τ), .dma ldS) 0 ∗ (src.view.loc (c : Thread nD τ) ↦[Finset.univ]{fullShare} fs) ∗ anyBuf c stM
            ∗ slotAt fullShare b c i X)
          -∗ wp frame (wpE (defs₀ (F := F)) 𝒱₀ c none) Set.univ (k ⟨⟩) Q)
        -∗ wp frame (wpE (defs₀ (F := F)) 𝒱₀ c none) Set.univ
            (.op (.enqueueDma src (.here M) (.dma ldS) hsrc hdst hsem) fun _ => .op (.waitDma2 ldS src M h1 h2) fun _ =>
              .op (.load M (Rect.unit (s := S1536x1536) ![0, 0] S1536x1536.size inb).toLoadRect hl) fun x =>
              .op (.load T (Rect.unit (s := S2x1536x1536) o S1x1536x1536.size inb').toLoadRect hl') fun _ =>
              .op (.store T (Rect.unit (s := S2x1536x1536) o S1x1536x1536.size inb') (pay x) Finset.univ hx hm) k) Q) := by
  subst hT ho hv
  unfold slotAny
  iintro ⟨#Hrec, HO, Hv, Hs, Hst, %f, Hsl⟩ Hk
  iapply (wp_fill m K c hO (T := cm b) (r := Rect.unit (s := S2x1536x1536) ![i.val, 0, 0] S1x1536x1536.size inb') (S := (sl b i).view.set) (f := f)
      (by exact subset_rfl) hM (pay := pay)) $$ [HO Hv Hs Hst Hsl]
  · isplitr; · iexact Hrec
    isplitl [HO]; · iexact HO
    isplitl [Hv]; · iexact Hv
    isplitl [Hs]; · iexact Hs
    isplitl [Hst] <;> iassumption
  iintro ⟨HO, Hv, Hs, Hst, Hsl⟩
  iapply Hk
  isplitl [HO]; · iexact HO
  isplitl [Hv]; · iexact Hv
  isplitl [Hs]; · iexact Hs
  isplitl [Hst]; · iexact Hst
  iapply (slot_of_store b c i f (pay (src.view.read (Elt F) fs))) $$ Hsl

end Steps

end Cert.KernelIdeal.RingProof
-- ==== Proof.RingIdeal.Body.lean ====
/-
  The whole body on one device: from what a device holds at the launch to its result, whole and right.
-/
module

public import proofs.«01_k».proof.Proof.RingIdeal.Hop

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- A device's two arguments, as they were at the launch. -/
def args (c : Dev nD) : sProp 𝕄 :=
  iprop((aM.view.loc (c : Thread nD τ) ↦[Finset.univ]{fullShare} aV m c) ∗ bM.view.loc (c : Thread nD τ) ↦[Finset.univ]{fullShare} bV m c)

/-- The result buffer, whatever it holds. -/
def anyOut (c : Dev nD) : sProp 𝕄 := iprop(∃ Y : Vec F S12288x3072 .f32, oM.view.loc (c : Thread nD τ) ↦[Finset.univ]{fullShare} Y)

/-- The kernel's scratch buffers. -/
def scratch (c : Dev nD) : sProp 𝕄 :=
  iprop(anyBuf (F := F) c stM ∗ anyBuf (F := F) c wM ∗ anyBuf (F := F) c (cm false) ∗ anyBuf (F := F) c (cm true) ∗ anyBuf (F := F) c ctM)

/-- The semaphores of the copies within the device, at zero. -/
def localSems (c : Dev nD) : sProp 𝕄 := iprop(semVal ((c : Thread nD τ), .dma ldS) 0 ∗ semVal ((c : Thread nD τ), .dma stS) 0)

/-- What a device holds of the protocol at the launch: its hops and its place at the barrier. -/
def hops (c : Dev nD) : sProp 𝕄 := iprop(hopGhost (F := F) c 0 ∗ hopGhost (F := F) c 1 ∗ hopGhost (F := F) c 2 ∗ atPos ER (barC c) 0 ∅ 0)

/-- All cells of the protocol closed. -/
def closed (c : Dev nD) : sProp 𝕄 :=
  iprop((doneSems (F := F) c 0 false ∗ doneSems (F := F) c 0 true) ∗ (doneSems (F := F) c 1 false ∗ doneSems (F := F) c 1 true)
    ∗ (doneSems (F := F) c 2 false ∗ doneSems (F := F) c 2 true) ∗ semVal (barC c) 0)

def bodyPre (K : Dev nD × Chan → ℕ) (c : Dev nD) : sProp 𝕄 :=
  iprop(records m K ∗ owesAny c (O0 c) ∗ localSems c ∗ args m c ∗ anyOut c ∗ scratch c ∗ hops c)

def bodyPost (c : Dev nD) : sProp 𝕄 :=
  iprop(owesAny c 0 ∗ localSems c ∗ args m c ∗ (oM.view.loc (c : Thread nD τ) ↦[Finset.univ]{fullShare} out m c) ∗ scratch c ∗ closed c)

/-- The blocks of the result that a hop fills in. -/
def blkF (c : Dev nD) (h : ℕ) : Fin 8 := ⟨2 * (origin false c h).val, by have := (origin false c h).isLt; change _ < 4 at this; omega⟩
def blkT (c : Dev nD) (h : ℕ) : Fin 8 := ⟨2 * (origin true c h).val + 1, by have := (origin true c h).isLt; change _ < 4 at this; omega⟩

theorem outBlk_F (c : Dev nD) (h : ℕ) : outBlk m c (blkF c h) = prod m false (origin false c h) c := by
  unfold outBlk blkF
  have e1 : decide (2 * (origin false c h).val % 2 = 1) = false := decide_eq_false (by omega)
  have e2 : (⟨2 * (origin false c h).val / 2, by have := (origin false c h).isLt; change _ < 4 at this; omega⟩ : Dev nD) = origin false c h := Fin.ext (by show 2 * (origin false c h).val / 2 = _; omega)
  dsimp only
  rw [e1, e2]
theorem outBlk_T (c : Dev nD) (h : ℕ) : outBlk m c (blkT c h) = prod m true (origin true c h) c := by
  unfold outBlk blkT
  have e1 : decide ((2 * (origin true c h).val + 1) % 2 = 1) = true := decide_eq_true (by omega)
  have e2 : (⟨(2 * (origin true c h).val + 1) / 2, by have := (origin true c h).isLt; change _ < 4 at this; omega⟩ : Dev nD) = origin true c h := Fin.ext (by show (2 * (origin true c h).val + 1) / 2 = _; omega)
  dsimp only
  rw [e1, e2]

/-- Between them the hops fill in all the blocks. -/
theorem blks_all (c : Dev nD) : insert (blkT c 3) (insert (blkF c 3) (insert (blkT c 2) (insert (blkF c 2) (insert (blkT c 1) (insert (blkF c 1)
    (insert (blkT c 0) (insert (blkF c 0) (∅ : Finset (Fin 8))))))))) = Finset.univ := by
  revert c; decide

/-- The rows at which the kernel puts each block. -/
theorem off_F0 (c : Dev nD) : k0_off1 c 0#32 0#32 = ![1536 * (blkF c 0).val, 0] := by revert c; decide
theorem off_F1 (c : Dev nD) : k0_off1 c 1#32 0#32 = ![1536 * (blkF c 1).val, 0] := by revert c; decide
theorem off_F2 (c : Dev nD) : k0_off1 c 2#32 0#32 = ![1536 * (blkF c 2).val, 0] := by revert c; decide
theorem off_T3 (c : Dev nD) : k0_off1 c 1#32 1536#32 = ![1536 * (blkT c 3).val, 0] := by revert c; decide

theorem off_T0 (c : Dev nD) : k0_off2 c 0#32 1536#32 = ![1536 * (blkT c 0).val, 0] := by revert c; decide
theorem off_T1 (c : Dev nD) : k0_off2 c 1#32 1536#32 = ![1536 * (blkT c 1).val, 0] := by revert c; decide
theorem off_T2 (c : Dev nD) : k0_off2 c 2#32 1536#32 = ![1536 * (blkT c 2).val, 0] := by revert c; decide
theorem off_F3 (c : Dev nD) : k0_off2 c 1#32 0#32 = ![1536 * (blkF c 3).val, 0] := by revert c; decide

/-- Reading a window of a whole buffer, and storing one. -/
theorem read_slice_whole (β : Ref sig .tc) (f : β.ty.Contents (Elt F)) {off size : Fin β.ty.shape.rank → ℕ}
    (inb : ∀ a, off a + size a ≤ β.ty.shape.size a) (hu : ∀ a, (Rect.unit off size inb).stride a = 1) :
    ((Memref.whole β).slice (Rect.unit off size inb) hu).view.read (Elt F) f = VecWindow.window f off size inb := rfl
theorem store_whole (β : Ref sig .tc) (f : β.ty.Contents (Elt F)) {off size : Fin β.ty.shape.rank → ℕ}
    (inb : ∀ a, off a + size a ≤ β.ty.shape.size a) (w : (Rect.unit off size inb).shape.Idx → Elt F β.ty.elt) :
    ((Memref.whole β).access (Rect.unit off size inb)).write (Elt F) f w Finset.univ = VecWindow.put f off size w :=
  write_slice_whole β f inb (fun _ => rfl) w

/-- The half of its rows that a device narrows for stream `b`, as the kernel names it, and what is there. -/
abbrev aSl (b : Bool) : Memref sig .tc .hbm S1536x1536 .f32 :=
  aM.slice (Rect.unit (s := S3072x1536) ![1536 * b.toNat, 0] S1536x1536.size (half_inb b)) (fun _ => rfl)
theorem tile_F (c : Dev nD) : (fun v => k0_pay3 (k0_pay2 v)) ((aSl false).view.read (Elt F) (aV m c)) = tile m false c := by
  rw [read_slice_whole main_arg0 (aV m c)]
  rfl
theorem tile_T (c : Dev nD) : k0_pay4 ((aSl true).view.read (Elt F) (aV m c)) = tile m true c := by
  rw [read_slice_whole main_arg0 (aV m c)]
  rfl

/-- The products as the kernel's parts write them. -/
theorem prod_F1 (c : Dev nD) : (fun x y => k0_pay10 (k0_pay9 x) y) (tile m false (origin false c 1)) (bNar m c) = outBlk m c (blkF c 1) := (outBlk_F m c 1).symm
theorem prod_T3 (c : Dev nD) : (fun x y => k0_pay1 (k0_pay15 x) y) (tile m true (origin true c 3)) (bNar m c) = outBlk m c (blkT c 3) := (outBlk_T m c 3).symm
theorem prod_T0 (c : Dev nD) : k0_pay8 (tile m true (origin true c 0)) (bNar m c) = outBlk m c (blkT c 0) := (outBlk_T m c 0).symm
theorem prod_T1 (c : Dev nD) : k0_pay11 (tile m true (origin true c 1)) (bNar m c) = outBlk m c (blkT c 1) := (outBlk_T m c 1).symm
theorem prod_F2 (c : Dev nD) : k0_pay12 (tile m false (origin false c 2)) (bNar m c) = outBlk m c (blkF c 2) := (outBlk_F m c 2).symm
theorem prod_T2 (c : Dev nD) : k0_pay13 (tile m true (origin true c 2)) (bNar m c) = outBlk m c (blkT c 2) := (outBlk_T m c 2).symm
theorem prod_F3 (c : Dev nD) : k0_pay14 (tile m false (origin false c 3)) (bNar m c) = outBlk m c (blkF c 3) := (outBlk_F m c 3).symm
theorem prod_F0 (c : Dev nD) : k0_pay7 (tile m false (origin false c 0)) (bNar m c) = outBlk m c (blkF c 0) := (outBlk_F m c 0).symm

/-- Fetch a block of the right matrix, narrow it and keep it in its place. -/
theorem wp_fill_w (K : Dev nD × Chan → ℕ) (c : Dev nD) {O : CellTallies nD τ sig ℕ} (hO : Above 0 O) (X : Vec F S1536x1536 .bf16) (f : Vec F S1536x3072 .bf16)
    {src : Memref sig (c : Thread nD τ).2.kind .hbm S1536x1536 .f32} {fs : Buf (Elt F) (src.view.loc (c : Thread nD τ))}
    {T : Memref sig (c : Thread nD τ).2.kind .vmem S1536x3072 .bf16} (hT : T = wM) {o : Fin 2 → ℕ}
    {inb' : ∀ a, o a + S1536x1536.size a ≤ S1536x3072.size a}
    {M : Memref sig (c : Thread nD τ).2.kind .vmem S1536x1536 .f32} (hM : M = stM)
    {inb : ∀ a, (![0, 0] : Fin 2 → ℕ) a + S1536x1536.size a ≤ S1536x1536.size a}
    (pay : (S1536x1536.Idx → Elt F .f32) → S1536x1536.Idx → Elt F .bf16) (hv : pay (src.view.read (Elt F) fs) = X)
    {hsrc : src.view.WordExact} {hdst : M.view.WordExact} {hsem : DmaTarget.Typed (nD := nD) .hbm (.dma ldS) (.here M)}
    {h1 : src.view.WordExact} {h2 : M.view.WordExact} {hl : M.view.LoadsAt (Rect.unit (s := S1536x1536) ![0, 0] S1536x1536.size inb).toLoadRect}
    {hl' : T.view.LoadsAt (Rect.unit (s := S1536x3072) o S1536x1536.size inb').toLoadRect}
    {hx : (T.access (Rect.unit (s := S1536x3072) o S1536x1536.size inb')).Stores Finset.univ}
    {hm : (Finset.univ : Finset (Rect.unit (s := S1536x3072) o S1536x1536.size inb').shape.Idx) = Finset.univ
        ∨ ∀ a, (Rect.unit (s := S1536x3072) o S1536x1536.size inb').stride a = 1}
    {k : PUnit → Prog (TpuEff nD τ sig (Elt F) Λ₀ .tc) PUnit} {Q : PUnit → sProp 𝕄} :
    iprop(records m K ∗ owesAny c O ∗ semVal ((c : Thread nD τ), .dma ldS) 0
        ∗ (src.view.loc (c : Thread nD τ) ↦[Finset.univ]{fullShare} fs) ∗ anyBuf c stM ∗ wM.view.loc (c : Thread nD τ) ↦[Finset.univ]{fullShare} f)
      ⊢ iprop(((owesAny c O ∗ semVal ((c : Thread nD τ), .dma ldS) 0 ∗ (src.view.loc (c : Thread nD τ) ↦[Finset.univ]{fullShare} fs) ∗ anyBuf c stM
            ∗ wM.view.loc (c : Thread nD τ) ↦[Finset.univ]{fullShare} VecWindow.put f o S1536x1536.size X)
          -∗ wp frame (wpE (defs₀ (F := F)) 𝒱₀ c none) Set.univ (k ⟨⟩) Q)
        -∗ wp frame (wpE (defs₀ (F := F)) 𝒱₀ c none) Set.univ
            (.op (.enqueueDma src (.here M) (.dma ldS) hsrc hdst hsem) fun _ => .op (.waitDma2 ldS src M h1 h2) fun _ =>
              .op (.load M (Rect.unit (s := S1536x1536) ![0, 0] S1536x1536.size inb).toLoadRect hl) fun x =>
              .op (.load T (Rect.unit (s := S1536x3072) o S1536x1536.size inb').toLoadRect hl') fun _ =>
              .op (.store T (Rect.unit (s := S1536x3072) o S1536x1536.size inb') (pay x) Finset.univ hx hm) k) Q) := by
  subst hT hv
  rw [← store_whole cc0_scratch1 f inb' (pay (src.view.read (Elt F) fs))]
  exact wp_fill m K c hO (T := wM) (r := Rect.unit (s := S1536x3072) o S1536x1536.size inb') (Finset.subset_univ _) hM (pay := pay)

/-- The halves of the right matrix as the kernel names them. -/
abbrev bSl (o : Fin 2 → ℕ) (i : ∀ a, o a + S1536x1536.size a ≤ S1536x3072.size a) : Memref sig .tc .hbm S1536x1536 .f32 :=
  bM.slice (Rect.unit (s := S1536x3072) o S1536x1536.size i) (fun _ => rfl)

/-- With every block in its place the result buffer holds the result. -/
theorem outSome_all (c : Dev nD) : outSome m c Finset.univ ⊢ (oM.view.loc (c : Thread nD τ) ↦[Finset.univ]{fullShare} out m c : sProp 𝕄) := by
  unfold outSome
  iintro ⟨%Y, %hY, Ho⟩
  rw [hY.univ m]
  iexact Ho

/-- Before the first block nothing is asked of the result buffer. -/
theorem outSome_none (c : Dev nD) (Y : Vec F S12288x3072 .f32) :
    (oM.view.loc (c : Thread nD τ) ↦[Finset.univ]{fullShare} Y : sProp 𝕄) ⊢ outSome m c ∅ := by
  unfold outSome
  iintro H
  iexists Y
  isplitr
  · ipureintro; exact fun _ _ h => absurd h (Finset.notMem_empty _)
  iexact H

set_option maxRecDepth 20000 in
set_option maxHeartbeats 1000000 in
/-- THE BODY. A device that holds its place in the protocol, its arguments, its buffers and its semaphores runs the kernel
    to the end; then its result is whole, its arguments are as they were and every semaphore is back at zero. -/
theorem sound_body (K : Dev nD × Chan → ℕ) (c : Dev nD) (Kt : PUnit → sProp 𝕄) :
    iprop(bodyPre m K c ∗ (bodyPost m c -∗ Kt ⟨⟩)) ⊢ wp frame (wpE (defs₀ (F := F)) 𝒱₀ c none) Set.univ
      (cc0_body (Memref.whole main_arg0) (Memref.isWhole_whole _) (Memref.whole main_arg1) (Memref.isWhole_whole _) (Memref.whole main_v1) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _)
        cc0_scratch5 cc0_scratch6 cc0_scratch7 cc0_scratch8 cc0_scratch9 cc0_scratch10) Kt := by
  rw [cc0_body_eq_skeleton]
  delta cc0_body_skel
  simp (etaStruct := .none) only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton,
    k0_part14_eq_skeleton]
  delta k0_part1_skel
  simp (etaStruct := .none) only [semSignalWord, semWaitWord, Prog.lift, Prog.bind_op, Prog.bind_ret, Prog.pure_eq_ret, Prog.bind_assoc, wp_deviceId]
  delta k0_part2_skel
  simp (etaStruct := .none) only [semSignalWord, semWaitWord, Prog.lift, Prog.bind_op, Prog.bind_ret, Prog.pure_eq_ret, Prog.bind_assoc]
  delta k0_part3_skel
  simp (etaStruct := .none) only [semSignalWord, semWaitWord, Prog.lift, Prog.bind_op, Prog.bind_ret, Prog.pure_eq_ret, Prog.bind_assoc]
  delta k0_part4_skel
  simp (etaStruct := .none) only [semSignalWord, semWaitWord, Prog.lift, Prog.bind_op, Prog.bind_ret, Prog.pure_eq_ret, Prog.bind_assoc]
  delta k0_part5_skel
  simp (etaStruct := .none) only [semSignalWord, semWaitWord, Prog.lift, Prog.bind_op, Prog.bind_ret, Prog.pure_eq_ret, Prog.bind_assoc]
  delta k0_part6_skel
  simp (etaStruct := .none) only [semSignalWord, semWaitWord, Prog.lift, Prog.bind_op, Prog.bind_ret, Prog.pure_eq_ret, Prog.bind_assoc]
  delta k0_part7_skel
  simp (etaStruct := .none) only [semSignalWord, semWaitWord, Prog.lift, Prog.bind_op, Prog.bind_ret, Prog.pure_eq_ret, Prog.bind_assoc]
  delta k0_part8_skel
  simp (etaStruct := .none) only [semSignalWord, semWaitWord, Prog.lift, Prog.bind_op, Prog.bind_ret, Prog.pure_eq_ret, Prog.bind_assoc]
  delta k0_part9_skel
  simp (etaStruct := .none) only [semSignalWord, semWaitWord, Prog.lift, Prog.bind_op, Prog.bind_ret, Prog.pure_eq_ret, Prog.bind_assoc]
  delta k0_part10_skel
  simp (etaStruct := .none) only [semSignalWord, semWaitWord, Prog.lift, Prog.bind_op, Prog.bind_ret, Prog.pure_eq_ret, Prog.bind_assoc]
  delta k0_part11_skel
  simp (etaStruct := .none) only [semSignalWord, semWaitWord, Prog.lift, Prog.bind_op, Prog.bind_ret, Prog.pure_eq_ret, Prog.bind_assoc]
  delta k0_part12_skel
  simp (etaStruct := .none) only [semSignalWord, semWaitWord, Prog.lift, Prog.bind_op, Prog.bind_ret, Prog.pure_eq_ret, Prog.bind_assoc]
  delta k0_part13_skel
  simp (etaStruct := .none) only [semSignalWord, semWaitWord, Prog.lift, Prog.bind_op, Prog.bind_ret, Prog.pure_eq_ret, Prog.bind_assoc]
  delta k0_part14_skel
  simp (etaStruct := .none) only [semSignalWord, semWaitWord, Prog.lift, Prog.bind_op, Prog.bind_ret, Prog.pure_eq_ret, Prog.bind_assoc]
  unfold bodyPre localSems args anyOut scratch hops
  iintro ⟨⟨#Hrec, HO, ⟨HvL, HvS⟩, ⟨Ha, Hb⟩, ⟨%Y, Ho⟩, ⟨Hst, Hw, Hcf, Hct', Hct⟩, Hh0, Hh1, Hh2, HaB⟩, Hk⟩
  ihave #HrT := (records_reached m K (nb true c) none) $$ Hrec
  ihave #HrF := (records_reached m K (nb false c) none) $$ Hrec
  ihave #Hrch0 : iprop(reached ER (barC (nb true c)) (0 : Fin 3).val ∗ reached ER (barC (nb false c)) (0 : Fin 3).val) $$ []
  · isplitr; · iexact HrT
    iexact HrF
  icases (slots_split false c) $$ Hcf with ⟨Hrf0, Hrf1⟩
  icases (slots_split true c) $$ Hct' with ⟨Hrt0, Hrt1⟩
  ihave Ho := (outSome_none m c Y) $$ Ho
  -- each device narrows its own half blocks into slot 0 of the two streams
  iapply (wp_fill_slot m K c false 0 (Above.O0 c) (tile m false c) (src := aSl false) (fs := aV m c) rfl rfl rfl (fun v => k0_pay3 (k0_pay2 v)) (tile_F m c)) $$ [HO HvL Ha Hst Hrf0]
  · isplitr; · iexact Hrec
    isplitl [HO]; · iexact HO
    isplitl [HvL]; · iexact HvL
    isplitl [Ha]; · iexact Ha
    isplitl [Hst]; · iexact Hst
    iassumption
  iintro ⟨HO, HvL, Ha, Hst, Hrf0⟩
  iapply (wp_fill_slot m K c true 0 (Above.O0 c) (tile m true c) (src := aSl true) (fs := aV m c) rfl rfl rfl k0_pay4 (tile_T m c)) $$ [HO HvL Ha Hst Hrt0]
  · isplitr; · iexact Hrec
    isplitl [HO]; · iexact HO
    isplitl [HvL]; · iexact HvL
    isplitl [Ha]; · iexact Ha
    isplitl [Hst]; · iexact Hst
    iassumption
  iintro ⟨HO, HvL, Ha, Hst, Hrt0⟩
  -- hop 0: the copies leave, the right matrix is fetched and narrowed while they fly, then the two products
  iapply (wp_hop_start m K c 0 (O := O1 c) ((Above.O1 c).mono (by decide)) (dev1_eq c) (dev2_eq c) (dev3_eq c) (dev4_eq c) rfl rfl rfl rfl rfl rfl rfl rfl rfl rfl rfl rfl rfl rfl)
      $$ [HO Hh0 HaB Hrf0 Hrt0 Hrf1 Hrt1]
  · isplitr; · iexact Hrec
    isplitl [HO]; · iexact HO
    isplitl [Hh0]; · iexact Hh0
    isplitl [HaB]; · iexact HaB
    isplitr; · iexact Hrch0
    isplitl [Hrf0 Hrt0]
    · isplitl [Hrf0]; · iexact Hrf0
      iexact Hrt0
    isplitl [Hrf1]; · iexact Hrf1
    iexact Hrt1
  iintro ⟨HO, Hmid, HaB, Hrf0, Hrt0⟩
  ihave Hw := (show anyBuf c wM ⊢ iprop(∃ w : Vec F S1536x3072 .bf16, wM.view.loc (c : Thread nD τ) ↦[Finset.univ]{fullShare} w) from .rfl) $$ Hw
  icases Hw with ⟨%w0, Hw⟩
  iapply (wp_fill_w m K c ((Above.O1 c).mono (by decide)) (k0_pay5 (VecWindow.window (bV m c) ![0, 0] S1536x1536.size inb_S1536x3072_S1536x1536_0_0)) _ (src := bSl ![0, 0] inb_S1536x3072_S1536x1536_0_0) (fs := bV m c)
      rfl rfl k0_pay5 (congrArg k0_pay5 (read_slice_whole main_arg1 (bV m c) inb_S1536x3072_S1536x1536_0_0 (fun _ => rfl)))) $$ [HO HvL Hb Hst Hw]
  · isplitr; · iexact Hrec
    isplitl [HO]; · iexact HO
    isplitl [HvL]; · iexact HvL
    isplitl [Hb]; · iexact Hb
    isplitl [Hst]; · iexact Hst
    iexact Hw
  iintro ⟨HO, HvL, Hb, Hst, Hw⟩
  iapply (wp_fill_w m K c ((Above.O1 c).mono (by decide)) (k0_pay6 (VecWindow.window (bV m c) ![0, 1536] S1536x1536.size inb_S1536x3072_S1536x1536_0_1536)) _ (src := bSl ![0, 1536] inb_S1536x3072_S1536x1536_0_1536) (fs := bV m c)
      rfl rfl k0_pay6 (congrArg k0_pay6 (read_slice_whole main_arg1 (bV m c) inb_S1536x3072_S1536x1536_0_1536 (fun _ => rfl)))) $$ [HO HvL Hb Hst Hw]
  · isplitr; · iexact Hrec
    isplitl [HO]; · iexact HO
    isplitl [HvL]; · iexact HvL
    isplitl [Hb]; · iexact Hb
    isplitl [Hst]; · iexact Hst
    iexact Hw
  iintro ⟨HO, HvL, Hb, Hst, Hw⟩
  rw [wHalves m c w0]
  iapply (wp_compute m K c false ((Above.O1 c).mono (by decide)) 0 (tile m false (origin false c 0)) fullShare.right (blkF c 0) (pay := k0_pay7)
      (prod_F0 m c) rfl rfl (off_F0 c) rfl rfl rfl) $$ [HO HvS Hrf0 Hw Hct Ho]
  · isplitr; · iexact Hrec
    isplitl [HO]; · iexact HO
    isplitl [HvS]; · iexact HvS
    isplitl [Hrf0]; · iexact Hrf0
    isplitl [Hw]; · iexact Hw
    isplitl [Hct]; · iexact Hct
    iexact Ho
  iintro ⟨HO, HvS, Hrf0, Hw, Hct, Ho⟩
  iapply (wp_compute m K c true ((Above.O1 c).mono (by decide)) 0 (tile m true (origin true c 0)) fullShare.right (blkT c 0) (pay := k0_pay8)
      (prod_T0 m c) rfl rfl (off_T0 c) rfl rfl rfl) $$ [HO HvS Hrt0 Hw Hct Ho]
  · isplitr; · iexact Hrec
    isplitl [HO]; · iexact HO
    isplitl [HvS]; · iexact HvS
    isplitl [Hrt0]; · iexact Hrt0
    isplitl [Hw]; · iexact Hw
    isplitl [Hct]; · iexact Hct
    iexact Ho
  iintro ⟨HO, HvS, Hrt0, Hw, Hct, Ho⟩
  iapply (wp_hop_end m K c 0 (Above.O1 c) rfl rfl rfl rfl (srcI 0) (dstI 0) (srcI 0) (dstI 0) rfl rfl rfl rfl) $$ [HO Hmid Hrf0 Hrt0]
  · isplitr; · iexact Hrec
    isplitl [HO]; · iexact HO
    isplitl [Hmid]; · iexact Hmid
    isplitl [Hrf0]; · iexact Hrf0
    iexact Hrt0
  iintro ⟨HO, Hd0, #Hrch1, ⟨Hrf0, Hrt0⟩, Hrf1, Hrt1⟩
  -- hop 1
  iapply (wp_hop_start m K c 1 (O := O2 c) ((Above.O2 c).mono (by decide)) (dev5_eq c) (dev6_eq c) (dev7_eq c) (dev8_eq c) rfl rfl rfl rfl rfl rfl rfl rfl rfl rfl rfl rfl rfl rfl)
      $$ [HO Hh1 HaB Hrf0 Hrt0 Hrf1 Hrt1]
  · isplitr; · iexact Hrec
    isplitl [HO]; · iexact HO
    isplitl [Hh1]; · iexact Hh1
    isplitl [HaB]; · iexact HaB
    isplitr; · iexact Hrch1
    isplitl [Hrf0 Hrt0]
    · isplitl [Hrf0]; · iexact Hrf0
      iexact Hrt0
    isplitl [Hrf1]; · iexact Hrf1
    iexact Hrt1
  iintro ⟨HO, Hmid, HaB, Hrf0, Hrt0⟩
  iapply (wp_compute m K c false ((Above.O2 c).mono (by decide)) 1 (tile m false (origin false c 1)) fullShare.right (blkF c 1) (pay := (fun x y => k0_pay10 (k0_pay9 x) y))
      (prod_F1 m c) rfl rfl (off_F1 c) rfl rfl rfl) $$ [HO HvS Hrf0 Hw Hct Ho]
  · isplitr; · iexact Hrec
    isplitl [HO]; · iexact HO
    isplitl [HvS]; · iexact HvS
    isplitl [Hrf0]; · iexact Hrf0
    isplitl [Hw]; · iexact Hw
    isplitl [Hct]; · iexact Hct
    iexact Ho
  iintro ⟨HO, HvS, Hrf0, Hw, Hct, Ho⟩
  iapply (wp_compute m K c true ((Above.O2 c).mono (by decide)) 1 (tile m true (origin true c 1)) fullShare.right (blkT c 1) (pay := k0_pay11)
      (prod_T1 m c) rfl rfl (off_T1 c) rfl rfl rfl) $$ [HO HvS Hrt0 Hw Hct Ho]
  · isplitr; · iexact Hrec
    isplitl [HO]; · iexact HO
    isplitl [HvS]; · iexact HvS
    isplitl [Hrt0]; · iexact Hrt0
    isplitl [Hw]; · iexact Hw
    isplitl [Hct]; · iexact Hct
    iexact Ho
  iintro ⟨HO, HvS, Hrt0, Hw, Hct, Ho⟩
  iapply (wp_hop_end m K c 1 (Above.O2 c) rfl rfl rfl rfl (srcI 1) (dstI 1) (srcI 1) (dstI 1) rfl rfl rfl rfl) $$ [HO Hmid Hrf0 Hrt0]
  · isplitr; · iexact Hrec
    isplitl [HO]; · iexact HO
    isplitl [Hmid]; · iexact Hmid
    isplitl [Hrf0]; · iexact Hrf0
    iexact Hrt0
  iintro ⟨HO, Hd1, #Hrch2, ⟨Hrf0, Hrt0⟩, Hrf1, Hrt1⟩
  -- hop 2
  iapply (wp_hop_start m K c 2 (O := 0) (Above.zero _) (dev9_eq c) (dev10_eq c) (dev11_eq c) (dev12_eq c) rfl rfl rfl rfl rfl rfl rfl rfl rfl rfl rfl rfl rfl rfl)
      $$ [HO Hh2 HaB Hrf0 Hrt0 Hrf1 Hrt1]
  · isplitr; · iexact Hrec
    isplitl [HO]; · iexact HO
    isplitl [Hh2]; · iexact Hh2
    isplitl [HaB]; · iexact HaB
    isplitr; · iexact Hrch2
    isplitl [Hrf0 Hrt0]
    · isplitl [Hrf0]; · iexact Hrf0
      iexact Hrt0
    isplitl [Hrf1]; · iexact Hrf1
    iexact Hrt1
  iintro ⟨HO, Hmid, HaB, Hrf0, Hrt0⟩
  iapply (wp_compute m K c false (Above.zero 0) 0 (tile m false (origin false c 2)) fullShare.right (blkF c 2) (pay := k0_pay12)
      (prod_F2 m c) rfl rfl (off_F2 c) rfl rfl rfl) $$ [HO HvS Hrf0 Hw Hct Ho]
  · isplitr; · iexact Hrec
    isplitl [HO]; · iexact HO
    isplitl [HvS]; · iexact HvS
    isplitl [Hrf0]; · iexact Hrf0
    isplitl [Hw]; · iexact Hw
    isplitl [Hct]; · iexact Hct
    iexact Ho
  iintro ⟨HO, HvS, Hrf0, Hw, Hct, Ho⟩
  iapply (wp_compute m K c true (Above.zero 0) 0 (tile m true (origin true c 2)) fullShare.right (blkT c 2) (pay := k0_pay13)
      (prod_T2 m c) rfl rfl (off_T2 c) rfl rfl rfl) $$ [HO HvS Hrt0 Hw Hct Ho]
  · isplitr; · iexact Hrec
    isplitl [HO]; · iexact HO
    isplitl [HvS]; · iexact HvS
    isplitl [Hrt0]; · iexact Hrt0
    isplitl [Hw]; · iexact Hw
    isplitl [Hct]; · iexact Hct
    iexact Ho
  iintro ⟨HO, HvS, Hrt0, Hw, Hct, Ho⟩
  iapply (wp_hop_end m K c 2 (Above.zero _) rfl rfl rfl rfl (srcI 2) (dstI 2) (srcI 2) (dstI 2) rfl rfl rfl rfl) $$ [HO Hmid Hrf0 Hrt0]
  · isplitr; · iexact Hrec
    isplitl [HO]; · iexact HO
    isplitl [Hmid]; · iexact Hmid
    isplitl [Hrf0]; · iexact Hrf0
    iexact Hrt0
  iintro ⟨HO, Hd2, #Hrch3, ⟨Hrf0, Hrt0⟩, Hrf1, Hrt1⟩
  -- the last two products, of the half blocks received last
  iapply (wp_compute m K c false (Above.zero 0) 1 (tile m false (origin false c 3)) fullShare (blkF c 3) (pay := k0_pay14)
      (prod_F3 m c) rfl rfl (off_F3 c) rfl rfl rfl) $$ [HO HvS Hrf0 Hw Hct Ho]
  · isplitr; · iexact Hrec
    isplitl [HO]; · iexact HO
    isplitl [HvS]; · iexact HvS
    isplitl [Hrf0]; · iexact Hrf0
    isplitl [Hw]; · iexact Hw
    isplitl [Hct]; · iexact Hct
    iexact Ho
  iintro ⟨HO, HvS, Hrf0, Hw, Hct, Ho⟩
  iapply (wp_compute m K c true (Above.zero 0) 1 (tile m true (origin true c 3)) fullShare (blkT c 3) (pay := (fun x y => k0_pay1 (k0_pay15 x) y))
      (prod_T3 m c) rfl rfl (off_T3 c) rfl rfl rfl) $$ [HO HvS Hrt0 Hw Hct Ho]
  · isplitr; · iexact Hrec
    isplitl [HO]; · iexact HO
    isplitl [HvS]; · iexact HvS
    isplitl [Hrt0]; · iexact Hrt0
    isplitl [Hw]; · iexact Hw
    isplitl [Hct]; · iexact Hct
    iexact Ho
  iintro ⟨HO, HvS, Hrt0, Hw, Hct, Ho⟩
  -- the barrier is passed for the last time, and every slot is at rest
  imod (Rounds.cell_close ER (Rd m) (Set.mem_univ (K (c, none))) (fun h => h) (R := 3) (duties_later_bar m c)) $$ [HaB] with HzB
  · isplitr; · iapply (records_inv m K c none); iexact Hrec
    iexact HaB
  ihave Hs0 := (slotAt_any false c 1 (tile m false (origin false c 3))) $$ Hrf0
  ihave Hs1 := (slotAt_any true c 1 (tile m true (origin true c 3))) $$ Hrt0
  rw [wp_ret]; imodintro
  iapply Hk
  unfold bodyPost localSems args scratch closed
  isplitl [HO]; · iexact HO
  isplitl [HvL HvS]
  · isplitl [HvL]; · iexact HvL
    iexact HvS
  isplitl [Ha Hb]
  · isplitl [Ha]; · iexact Ha
    iexact Hb
  isplitl [Ho]
  · iapply (outSome_all m c)
    rw [← blks_all c]
    iexact Ho
  isplitl [Hst Hw Hct Hs0 Hs1 Hrf1 Hrt1]
  · isplitl [Hst]; · iexact Hst
    isplitl [Hw]; · unfold anyBuf; iexists _; iexact Hw
    isplitl [Hs0 Hrf1]
    · iapply (slots_join false c)
      isplitl [Hrf1]; · iexact Hrf1
      iexact Hs0
    isplitl [Hs1 Hrt1]
    · iapply (slots_join true c)
      isplitl [Hrt1]; · iexact Hrt1
      iexact Hs1
    iexact Hct
  isplitl [Hd0]; · iexact Hd0
  isplitl [Hd1]; · iexact Hd1
  isplitl [Hd2]; · iexact Hd2
  iexact HzB

end Cert.KernelIdeal.RingProof
-- ==== Proof.RingIdeal.Deal.lean ====
/-
  How the launch deals out the protocol: every cell's invariant is allocated for all devices at once, every token goes
  to the device that will pay with it, and what the devices owe one another at the start becomes the credit with which
  each of them waits.
-/
module

public import proofs.«01_k».proof.Proof.RingIdeal.Body

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Cells and tokens -/

theorem kcell_injective : Function.Injective (fun ck : Dev nD × Chan => kcell ck.1 ck.2) := by
  rintro ⟨c, k⟩ ⟨c', k'⟩ h
  have h1 : c = c' := congrArg (fun g : GSem nD τ sig => g.1.1) h
  have h2 : k = k' := csem_injective (congrArg Prod.snd h)
  subst h1 h2; rfl

/-- The cells of the protocol. -/
def ringCells : Finset (GSem nD τ sig) := Finset.univ.map ⟨fun ck : Dev nD × Chan => kcell ck.1 ck.2, kcell_injective⟩

/-- One stream at one hop. -/
abbrev Leg : Type := Fin 3 × Bool

/-- The token of a cell of device `c` at a leg: the unit of its barrier that the neighbour on that leg pays (`none`), its
    send cell's (`some false`), its receive cell's (`some true`). -/
def tokOf (x : Dev nD × Leg × Option Bool) : GSem nD τ sig × ℕ × Bool :=
  match x.2.2 with
  | none => (barC x.1, x.2.1.1.val, !x.2.1.2)
  | some r => (kcell x.1 (some (x.2.1.2, r, x.2.1.1)), 0, false)

theorem tokOf_injective : Function.Injective tokOf := by
  rintro ⟨c, ⟨h, b⟩, o⟩ ⟨c', ⟨h', b'⟩, o'⟩ e
  rcases o with _ | r <;> rcases o' with _ | r' <;> simp only [tokOf] at e
  · have h1 : c = c' := congrArg (fun x : GSem nD τ sig × ℕ × Bool => x.1.1.1) e
    have h2 : h = h' := Fin.ext (congrArg (fun x : GSem nD τ sig × ℕ × Bool => x.2.1) e)
    have h3 : b = b' := by
      have := congrArg (fun x : GSem nD τ sig × ℕ × Bool => !x.2.2) e
      simpa using this
    subst h1 h2 h3; rfl
  · exact absurd (csem_injective (a₁ := none) (a₂ := some (b', r', h')) (congrArg (fun x : GSem nD τ sig × ℕ × Bool => x.1.2) e)) (by simp)
  · exact absurd (csem_injective (a₁ := some (b, r, h)) (a₂ := none) (congrArg (fun x : GSem nD τ sig × ℕ × Bool => x.1.2) e)) (by simp)
  · have h0 := kcell_injective (a₁ := (c, some (b, r, h))) (a₂ := (c', some (b', r', h'))) (congrArg Prod.fst e)
    simp only [Prod.mk.injEq, Option.some.injEq] at h0
    obtain ⟨h1, h2, h3, h4⟩ := h0
    subst h1 h2 h3 h4; rfl

def ringToks : Finset (GSem nD τ sig × ℕ × Bool) := Finset.univ.map ⟨tokOf, tokOf_injective⟩

/-- The tokens of device `c`'s own cells. -/
def toks (c : Dev nD) : sProp 𝕄 :=
  bigSep Finset.univ fun l : Leg => iprop(dutyTok ER (barC c) l.1.val (!l.2) ∗ dutyTok ER (sendC l.2 l.1 c) 0 false ∗ dutyTok ER (recvC l.2 l.1 c) 0 false)

/-- The tokens with which device `c` pays. -/
def payToks (c : Dev nD) : sProp 𝕄 :=
  bigSep Finset.univ fun l : Leg => iprop(barTok c l.1 l.2 ∗ dutyTok ER (sendC l.2 l.1 c) 0 false ∗ dutyTok ER (recvC l.2 l.1 (nb l.2 c)) 0 false)

theorem bigSep_swap {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α), bigSep_univ_prod]
  rfl

/-- Dealt along the ring, the tokens of the cells are the tokens of those who pay. -/
theorem toks_around : (bigSep Finset.univ fun c : Dev nD => (toks c : sProp 𝕄)) ⊢ bigSep Finset.univ fun c : Dev nD => payToks c := by
  unfold toks payToks
  rw [bigSep_swap (F := F) (α := Dev nD) (β := Leg), bigSep_swap (F := F) (α := Dev nD) (β := Leg)]
  refine bigSep_mono fun l _ => ?_
  simp only [bigSep_sep']
  rw [bigSep_univ_equiv (turn l.2) (fun c : Dev nD => (dutyTok ER (barC c) l.1.val (!l.2) : sProp 𝕄)),
    bigSep_univ_equiv (turn l.2) (fun c : Dev nD => (dutyTok ER (recvC l.2 l.1 c) 0 false : sProp 𝕄))]
  unfold barTok
  exact BI.Entails.refl _

/-- What a device is dealt before the cells' invariants exist. -/
def G (c : Dev nD) : sProp 𝕄 :=
  iprop((bigSep Finset.univ fun k : Chan => roundState ER (Rd m) (kcell c k) 0)
    ∗ (bigSep Finset.univ fun k : Chan => iprop(atPos ER (kcell c k) 0 ∅ 0 ∗ reached ER (kcell c k) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Chan => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]
    refine bigSep_congr fun c _ => ?_
    rw [bigSep_univ_prod]
    refine bigSep_congr fun l _ => ?_
    rw [bigSep_univ_eq_bigSepL [none, some false, some true] (by decide) (by decide)]
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Semaphores -/

/-- The semaphores of the launch itself: the two of the copies within a device and the twelve of the streams. -/
abbrev osem : Fin 14 → SemLoc sig := fun i => .dma ⟨i.val, by have := i.isLt; exact this⟩

theorem ownSemFacts : Pipeline.OwnSemFacts cfg0.spec osem := by decide

/-- All channels. -/
abbrev chans : List Chan := [some (false, false, 0), some (false, false, 1), some (false, false, 2), some (false, true, 0), some (false, true, 1), some (false, true, 2),
  some (true, false, 0), some (true, false, 1), some (true, false, 2), some (true, true, 0), some (true, true, 1), some (true, true, 2), none]
theorem bigSep_chan (Φ : Chan → sProp 𝕄) : bigSep Finset.univ Φ
    = iprop(Φ (some (false, false, 0)) ∗ Φ (some (false, false, 1)) ∗ Φ (some (false, false, 2)) ∗ Φ (some (false, true, 0)) ∗ Φ (some (false, true, 1)) ∗ Φ (some (false, true, 2)) ∗ Φ (some (true, false, 0)) ∗ Φ (some (true, false, 1)) ∗ Φ (some (true, false, 2)) ∗ Φ (some (true, true, 0)) ∗ Φ (some (true, true, 1)) ∗ Φ (some (true, true, 2)) ∗ Φ none) :=
  bigSep_univ_eq_bigSepL chans (by decide) (by decide) Φ
theorem bigSep_leg (Φ : Leg → sProp 𝕄) : bigSep Finset.univ Φ = iprop(Φ (0, false) ∗ Φ (0, true) ∗ Φ (1, false) ∗ Φ (1, true) ∗ Φ (2, false) ∗ Φ (2, true)) :=
  bigSep_univ_eq_bigSepL [(0, false), (0, true), (1, false), (1, true), (2, false), (2, true)] (by decide) (by decide) Φ

/-- A device's own semaphores at zero: the local ones and the streams'; -/
theorem ownSems0_eq (c : Dev nD) : (Pipeline.ownSems0 (Ix := ℕ) (Name := ℕ) (U := UU) (Lvl := ℕ) (Val := Elt F) (τ := τ) osem c : sProp 𝕄)
    = iprop(semVal ((c : Thread nD τ), .dma ldS) 0 ∗ semVal ((c : Thread nD τ), .dma stS) 0
      ∗ semVal (sendC false 0 c) 0 ∗ semVal (sendC false 1 c) 0 ∗ semVal (sendC false 2 c) 0
      ∗ semVal (recvC false 0 c) 0 ∗ semVal (recvC false 1 c) 0 ∗ semVal (recvC false 2 c) 0
      ∗ semVal (sendC true 0 c) 0 ∗ semVal (sendC true 1 c) 0 ∗ semVal (sendC true 2 c) 0
      ∗ semVal (recvC true 0 c) 0 ∗ semVal (recvC true 1 c) 0 ∗ semVal (recvC true 2 c) 0) := by
  rw [Pipeline.ownSems0_eq_of_list c osem [0, 1, 2, 3, 4, 5, 6, 7, 8, 9, 10, 11, 12, 13] (by decide) (by decide)]; rfl
/-- the barrier's is the one that outlives the launch. -/
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_split (c : Dev nD) :
    iprop(Pipeline.ownSems0 (Ix := ℕ) (Name := ℕ) (U := UU) (Lvl := ℕ) (Val := Elt F) (τ := τ) osem c ∗ unscopedSems0 c)
      ⊢ iprop(localSems (F := F) c ∗ bigSep Finset.univ fun k : Chan => semVal (kcell c k) 0) := by
  rw [ownSems0_eq, unscopedSems0_eq, bigSep_chan]
  unfold localSems
  iintro ⟨⟨Hl, Hs, H1, H2, H3, H4, H5, H6, H7, H8, H9, H10, H11, H12⟩, HB⟩
  isplitl [Hl Hs]
  · isplitl [Hl] <;> iassumption
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HB

/-- When all is done the semaphores are again at zero. -/
theorem sems0_join (c : Dev nD) :
    iprop(localSems (F := F) c ∗ closed (F := F) c)
      ⊢ iprop(Pipeline.ownSems0 (Ix := ℕ) (Name := ℕ) (U := UU) (Lvl := ℕ) (Val := Elt F) (τ := τ) osem c ∗ unscopedSems0 c) := by
  rw [ownSems0_eq, unscopedSems0_eq]
  unfold localSems closed doneSems
  iintro ⟨⟨Hl, Hs⟩, ⟨⟨H1, H4⟩, H7, H10⟩, ⟨⟨H2, H5⟩, H8, H11⟩, ⟨⟨H3, H6⟩, H9, H12⟩, HB⟩
  isplitr [HB]
  · isplitl [Hl]; · iexact Hl
    isplitl [Hs]; · iexact Hs
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact HB

/-! ## The allocation -/

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Chan => iprop(∃ κ : ℕ, cellInv ER (Rd m) κ (kcell c k)))
          ∗ (bigSep Finset.univ fun k : Chan => iprop(atPos ER (kcell c k) 0 ∅ 0 ∗ reached ER (kcell c k) 0)) ∗ toks c ∗ localSems c) := by
  unfold G
  iintro ⟨Hos, Hus, Hst, Hat, Htok⟩
  ihave Hv := (sems0_split (F := F) c) $$ [Hos Hus]
  · isplitl [Hos] <;> iassumption
  icases Hv with ⟨Hloc, Hv⟩
  imod (show iprop((bigSep Finset.univ fun k : Chan => semVal (kcell c k) 0) ∗ bigSep Finset.univ fun k : Chan => roundState ER (Rd m) (kcell c k) 0)
      ⊢ (|={Set.univ}=> bigSep Finset.univ fun k : Chan => iprop(∃ κ : ℕ, cellInv ER (Rd m) κ (kcell c k)) : sProp 𝕄) from by
        rw [← bigSep_sep']
        exact (bigSep_mono fun k _ => (Rounds.body_intro ER (Rd m) (kcell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- The part of the records that is there before the levels are. -/
def recs (K : Dev nD × Chan → ℕ) : sProp 𝕄 :=
  iprop((bigSep Finset.univ fun ck : Dev nD × Chan => cellInv ER (Rd m) (K ck) (kcell ck.1 ck.2))
    ∗ bigSep Finset.univ fun ck : Dev nD × Chan => reached ER (kcell ck.1 ck.2) 0)
instance recs_persistent (K : Dev nD × Chan → ℕ) : BI.Persistent (recs m K) := by unfold recs; infer_instance

/-- What is a device's own: its places at its cells, its tokens, its local semaphores. -/
def linear (c : Dev nD) : sProp 𝕄 :=
  iprop((bigSep Finset.univ fun k : Chan => atPos ER (kcell c k) 0 ∅ 0) ∗ payToks c ∗ localSems c)

/-- What the allocation leaves with a device. -/
def G' (c : Dev nD) : sProp 𝕄 := iprop(∃ K, recs m K ∗ linear c)

theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Chan → ℕ) (c : Dev nD) : iprop(recs m K ∗ linear c) ⊢ G' m c := by
  unfold G'; iintro H; iexists K; iexact H

theorem regroup :
    (bigSep Finset.univ fun c : Dev nD => iprop((bigSep Finset.univ fun k : Chan => iprop(∃ κ : ℕ, cellInv ER (Rd m) κ (kcell c k)))
          ∗ (bigSep Finset.univ fun k : Chan => iprop(atPos ER (kcell c k) 0 ∅ 0 ∗ reached ER (kcell c k) 0)) ∗ toks c ∗ localSems c) : sProp 𝕄)
      ⊢ bigSep Finset.univ (G' m) := by
  rw [bigSep_sep', bigSep_sep', bigSep_sep', ← bigSep_univ_prod (fun ck : Dev nD × Chan => iprop(∃ κ : ℕ, cellInv ER (Rd m) κ (kcell ck.1 ck.2))),
    bigSep_congr (s := Finset.univ) (fun (c : Dev nD) _ => bigSep_sep' Finset.univ (fun k : Chan => (atPos ER (kcell c k) 0 ∅ 0 : sProp 𝕄)) (fun k => reached ER (kcell c k) 0)),
    bigSep_sep', ← bigSep_univ_prod (fun ck : Dev nD × Chan => (reached ER (kcell ck.1 ck.2) 0 : sProp 𝕄))]
  iintro ⟨HI, ⟨Hat, #HR⟩, Htok, Hloc⟩
  ihave HK := (BI.bigSep_exists_pi Finset.univ (fun (ck : Dev nD × Chan) (κ : ℕ) => (cellInv ER (Rd m) κ (kcell ck.1 ck.2) : sProp 𝕄))) $$ HI
  icases HK with ⟨%K, #HI⟩
  ihave Htk := (toks_around (F := F)) $$ Htok
  iapply (share_out (R := recs m K) fun c _ => G'_intro m K c)
  isplitr
  · unfold recs; isplitl; · iexact HI
    iexact HR
  · unfold linear
    rw [bigSep_sep', bigSep_sep']
    isplitl [Hat]; · iexact Hat
    isplitl [Htk]; · iexact Htk
    iexact Hloc

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What a device may wait for at a hop. -/
def creds (c : Dev nD) (h : Fin 3) : sProp 𝕄 :=
  iprop(cred (tallyAt (barC c) h.val 2) ∗ cred (tallyAt (recvC false h c) 0 (cr false)) ∗ cred (tallyAt (recvC true h c) 0 (cr true)))

theorem cred_bar (c : Dev nD) (h : Fin 3) (b : Bool) :
    (Pipeline.launchCred (fun d => oweBar d h b) c : sProp 𝕄) ⊢ cred (tallyAt (barC c) h.val 1) :=
  Pipeline.launchCred_tallyAt (csem none) (nb b) (nb (!b)) (nb_forth b) (nb_back b) h.val 1 c
theorem cred_copy (c : Dev nD) (h : Fin 3) (b : Bool) :
    (Pipeline.launchCred (fun d => oweCopy d h b) c : sProp 𝕄) ⊢ cred (tallyAt (recvC b h c) 0 (cr b)) :=
  Pipeline.launchCred_tallyAt (csem (some (b, true, h))) (nb b) (nb (!b)) (nb_forth b) (nb_back b) 0 (cr b) c

/-- What the devices owe for a hop is what each may wait for. -/
theorem cred_hop (c : Dev nD) (h : Fin 3) (O : Dev nD → CellTallies nD τ sig ℕ) :
    (Pipeline.launchCred (fun d => oweH d h (O d)) c : sProp 𝕄) ⊢ iprop(creds c h ∗ Pipeline.launchCred O c) := by
  unfold oweH oweS oweR oweL creds
  rw [Pipeline.launchCred_add, Pipeline.launchCred_add, Pipeline.launchCred_add, Pipeline.launchCred_add]
  iintro ⟨⟨⟨⟨HO, HT⟩, HF⟩, HBF⟩, HBT⟩
  ihave HT' := (cred_copy (F := F) c h true) $$ HT
  ihave HF' := (cred_copy (F := F) c h false) $$ HF
  ihave H1 := (cred_bar (F := F) c h false) $$ HBF
  ihave H2 := (cred_bar (F := F) c h true) $$ HBT
  isplitr [HO]
  · isplitl [H1 H2]
    · rw [show (tallyAt (barC c) h.val 2 : CellTallies nD τ sig ℕ) = tallyAt (barC c) h.val 1 + tallyAt (barC c) h.val 1 from (tallyAt_add _ _ 1 1).symm]
      iapply (cred_add _ _).2
      isplitl [H1] <;> iassumption
    isplitl [HF'] <;> iassumption
  iexact HO

theorem creds_all (c : Dev nD) : (Pipeline.launchCred O0 c : sProp 𝕄) ⊢ iprop(creds c 0 ∗ creds c 1 ∗ creds c 2) := by
  show Pipeline.launchCred (fun d => oweH d 0 (oweH d 1 (oweH d 2 0))) c ⊢ _
  iintro H
  ihave H := (cred_hop (F := F) c 0 fun d => oweH d 1 (oweH d 2 0)) $$ H
  icases H with ⟨H0, H⟩
  ihave H := (cred_hop (F := F) c 1 fun d => oweH d 2 0) $$ H
  icases H with ⟨H1, H⟩
  ihave H := (cred_hop (F := F) c 2 fun d => 0) $$ H
  icases H with ⟨H2, -⟩
  isplitl [H0]; · iexact H0
  isplitl [H1]; · iexact H1
  iexact H2

/-- Places, tokens and credits make up the hops. -/
theorem hops_intro (c : Dev nD) :
    iprop((bigSep Finset.univ fun k : Chan => (atPos ER (kcell c k) 0 ∅ 0 : sProp 𝕄)) ∗ payToks c ∗ creds c 0 ∗ creds c 1 ∗ creds c 2) ⊢ hops (F := F) c := by
  unfold payToks
  rw [bigSep_chan, bigSep_leg]
  unfold hops hopGhost strGhost creds
  iintro ⟨⟨Pa0, Pa1, Pa2, Pb0, Pb1, Pb2, Pc0, Pc1, Pc2, Pd0, Pd1, Pd2, PB⟩,
    ⟨⟨Bf0, Sf0, Rf0⟩, ⟨Bt0, St0, Rt0⟩, ⟨Bf1, Sf1, Rf1⟩, ⟨Bt1, St1, Rt1⟩, ⟨Bf2, Sf2, Rf2⟩, Bt2, St2, Rt2⟩,
    ⟨CB0, Cf0, Ct0⟩, ⟨CB1, Cf1, Ct1⟩, CB2, Cf2, Ct2⟩
  isplitl [Pa0 Pb0 Pc0 Pd0 Bf0 Sf0 Rf0 Bt0 St0 Rt0 CB0 Cf0 Ct0]
  · isplitl [Bt0]; · iexact Bt0
    isplitl [Bf0]; · iexact Bf0
    isplitl [CB0]; · iexact CB0
    isplitl [Sf0 Rf0 Pa0 Pb0 Cf0]
    · isplitl [Sf0]; · iexact Sf0
      isplitl [Rf0]; · iexact Rf0
      isplitl [Pa0]; · iexact Pa0
      isplitl [Pb0]; · iexact Pb0
      iexact Cf0
    isplitl [St0]; · iexact St0
    isplitl [Rt0]; · iexact Rt0
    isplitl [Pc0]; · iexact Pc0
    isplitl [Pd0]; · iexact Pd0
    iexact Ct0
  isplitl [Pa1 Pb1 Pc1 Pd1 Bf1 Sf1 Rf1 Bt1 St1 Rt1 CB1 Cf1 Ct1]
  · isplitl [Bt1]; · iexact Bt1
    isplitl [Bf1]; · iexact Bf1
    isplitl [CB1]; · iexact CB1
    isplitl [Sf1 Rf1 Pa1 Pb1 Cf1]
    · isplitl [Sf1]; · iexact Sf1
      isplitl [Rf1]; · iexact Rf1
      isplitl [Pa1]; · iexact Pa1
      isplitl [Pb1]; · iexact Pb1
      iexact Cf1
    isplitl [St1]; · iexact St1
    isplitl [Rt1]; · iexact Rt1
    isplitl [Pc1]; · iexact Pc1
    isplitl [Pd1]; · iexact Pd1
    iexact Ct1
  isplitl [Pa2 Pb2 Pc2 Pd2 Bf2 Sf2 Rf2 Bt2 St2 Rt2 CB2 Cf2 Ct2]
  · isplitl [Bt2]; · iexact Bt2
    isplitl [Bf2]; · iexact Bf2
    isplitl [CB2]; · iexact CB2
    isplitl [Sf2 Rf2 Pa2 Pb2 Cf2]
    · isplitl [Sf2]; · iexact Sf2
      isplitl [Rf2]; · iexact Rf2
      isplitl [Pa2]; · iexact Pa2
      isplitl [Pb2]; · iexact Pb2
      iexact Cf2
    isplitl [St2]; · iexact St2
    isplitl [Rt2]; · iexact Rt2
    isplitl [Pc2]; · iexact Pc2
    isplitl [Pd2]; · iexact Pd2
    iexact Ct2
  iexact PB

end Cert.KernelIdeal.RingProof
-- ==== Proof.RingIdeal.Launch.lean ====
/-
  The run of the whole program on the four devices: from any memory with the semaphores at zero it ends, with the
  arguments as they were, the same computed result on every device, and the semaphores at zero again.
-/
module

public import proofs.«01_k».proof.Proof.RingIdeal.Deal
public import Idealize.ShloMosaic.Lib.Pipeline.CollectiveSegs
public import Idealize.ShloMosaic.Lib.Quiescent

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (ρ : Dev nD → PrngReg)

/-- What a device starts its body with, the scratch buffers apart. -/
def start (c : Dev nD) : sProp 𝕄 :=
  iprop(∃ K, records m K ∗ localSems c ∗ args m c ∗ anyOut (F := F) c ∗ hops c)

/-- What it ends with. -/
def finish (c : Dev nD) : sProp 𝕄 :=
  iprop(localSems c ∗ args m c ∗ (oM.view.loc (c : Thread nD τ) ↦[Finset.univ]{fullShare} out m c) ∗ scratch (F := F) c ∗ closed c)

/-- The proof data of the one region: no windows, one point. -/
def dats (_ : Fin 1) (c : Dev nD) : Pipeline.Dat τ (Elt F) ℕ ℕ UU ℕ cfg0 c where
  A w := w.elim0
  after w := w.elim0
  Φ t := match t with
    | ⟨0, _⟩ => iprop(start m c ∗ scratch (F := F) c)
    | ⟨_ + 1, _⟩ => finish m c
  q w := w.elim0
  owed t := match t with
    | ⟨0, _⟩ => O0 c
    | ⟨_ + 1, _⟩ => 0

theorem body_obligation (c : Dev nD) : Pipeline.BodyObligation (dats (F := F) m 0 c) (defs₀ (F := F)) 𝒱₀ 0 Set.univ := fun t => by
  rw [fin_N0 t]
  show iprop(iprop(start m c ∗ scratch (F := F) c) ∗ Pipeline.owesWithin c (O0 c) ((dats (F := F) m 0 c).bound 0 t0_0.castSucc) ∗ bigSep Finset.univ _)
    ⊢ wp frame (wpE (defs₀ (F := F)) 𝒱₀ c none) Set.univ
      (cc0_body (Memref.whole main_arg0) (Memref.isWhole_whole _) (Memref.whole main_arg1) (Memref.isWhole_whole _) (Memref.whole main_v1) (Memref.isWhole_whole _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _)
        cc0_scratch5 cc0_scratch6 cc0_scratch7 cc0_scratch8 cc0_scratch9 cc0_scratch10)
      (fun _ => iprop(finish m c ∗ Pipeline.owesWithin c 0 ((dats (F := F) m 0 c).bound 0 t0_0.succ) ∗ bigSep Finset.univ _))
  unfold start Pipeline.owesWithin
  iintro ⟨⟨⟨%K, Hrec, Hl, Ha, Ho, Hh⟩, Hs⟩, ⟨%W, %hW, HO⟩, Hw⟩
  iapply (sound_body m K c)
  isplitl [Hrec Hl Ha Ho Hh Hs HO]
  · unfold bodyPre
    isplitl [Hrec]; · iexact Hrec
    isplitl [HO]
    · unfold owesAny; iexists W; iexact HO
    isplitl [Hl]; · iexact Hl
    isplitl [Ha]; · iexact Ha
    isplitl [Ho]; · iexact Ho
    isplitl [Hs]; · iexact Hs
    iexact Hh
  · unfold bodyPost finish owesAny
    iintro ⟨⟨%W', HO⟩, Hl, Ha, Ho, Hs, Hc⟩
    isplitl [Hl Ha Ho Hs Hc]
    · isplitl [Hl]; · iexact Hl
      isplitl [Ha]; · iexact Ha
      isplitl [Ho]; · iexact Ho
      isplitl [Hs] <;> iassumption
    isplitl [HO]
    · iexists W'
      isplitr; · ipureintro; exact fun _ _ => Or.inl trivial
      iexact HO
    iexact Hw

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' m c)
      ⊢ |={Set.univ}=> iprop(start m c ∗ emp) := by
  rw [Pipeline.unscopedRestP_none, unscopedRest0_eq]
  unfold G' recs linear start records args anyOut
  iintro ⟨⟨HA, HB, HY⟩, Hlev, Hcr, -, ⟨%K, ⟨HI, HR⟩, Hat, Htok, Hloc⟩⟩
  ihave Hc := (creds_all (F := F) c) $$ Hcr
  ihave Hh := (hops_intro (F := F) c) $$ [Hat Htok Hc]
  · isplitl [Hat]; · iexact Hat
    isplitl [Htok] <;> iassumption
  imodintro
  isplitl
  · iexists K
    isplitl [HI HR Hlev]
    · isplitl [HI]; · iexact HI
      isplitl [HR] <;> iassumption
    isplitl [Hloc]; · iexact Hloc
    isplitl [HA HB]
    · isplitl [HA]; · iexact HA
      iexact HB
    isplitl [HY]
    · iexists _; iexact HY
    iexact Hh
  · iempintro

theorem scratch_eq (c : Dev nD) : (Pipeline.scopedRest (Ix := ℕ) (Name := ℕ) (U := UU) (Lvl := ℕ) (Val := Elt F) cfg0.spec c : sProp 𝕄) = scratch (F := F) c := by
  rw [scopedRest0_eq]; rfl

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch (F := F) c) from rfl, scratch_eq]
  iintro ⟨Hs, -, Hr⟩
  isplitl [Hs] <;> iassumption

/-- What is read off when all is over: arguments, result and barrier semaphore. -/
def over (c : Dev nD) : sProp 𝕄 :=
  iprop(args m c ∗ (oM.view.loc (c : Thread nD τ) ↦[Finset.univ]{fullShare} out m c) ∗ unscopedSems0 c)

theorem last_exit (c : Dev nD) :
    (dats m 0 c).Φ (Fin.last cfg0.N) ⊢ iprop(over m c ∗ Pipeline.ownSems0 osem c ∗ Pipeline.scopedRest cfg0.spec c) := by
  rw [show (dats m 0 c).Φ (Fin.last cfg0.N) = finish m c from rfl, scratch_eq]
  unfold finish over
  iintro ⟨Hl, Ha, Ho, Hs, Hc⟩
  ihave H := (sems0_join (F := F) c) $$ [Hl Hc]
  · isplitl [Hl] <;> iassumption
  icases H with ⟨Hos, Hus⟩
  isplitl [Ha Ho Hus]
  · isplitl [Ha]; · iexact Ha
    isplitl [Ho] <;> iassumption
  isplitl [Hos] <;> iassumption

theorem waits (c : Dev nD) : (levAts L lv : sProp 𝕄) ⊢ Pipeline.cellsWaits cfgs (dats m) 0 0 c :=
  Pipeline.cellsWaits_intro cfgs (dats m) 0 0 c fun w s t => w.elim0

/-! ## The run -/

/-- What the memory of device `c` is in the end: the arguments as before, the result computed. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = out m c

theorem over_read (c : Dev nD) (s' : Phys nD τ sig (Elt F)) :
    iprop(over m c ∗ emp ∗ SI s')
      ⊢ |={Set.univ}=> iprop(⌜Ends m c s'.mem ∧ ∀ sm : SemLoc sig, sm.isScoped .tc = false → s'.mem.sem ((c.tc : Thread nD τ), sm) = 0⌝ ∗ SI s') := by
  unfold over args
  iintro ⟨⟨⟨HA, HB⟩, HY, Hu⟩, -, HSI⟩
  icombine HSI HA gives %hA
  icombine HSI HB gives %hB
  icombine HSI HY gives %hY
  imod (Pipeline.unscopedSems0_read (X := unscopedSems0 c) (c := c) fupd_intro s') $$ [Hu HSI] with ⟨%hz, HSI⟩
  · isplitl [Hu] <;> iassumption
  imodintro
  isplitr
  · ipureintro
    exact ⟨⟨Buf.eq_of_forall_mem_univ hA, Buf.eq_of_forall_mem_univ hB, Buf.eq_of_forall_mem_univ hY⟩, hz⟩
  iexact HSI

def u₀ : UU :=
  (initOf (Pipeline.cells cfgs cellOf_inj) (Pipeline.launchToks cfgs cellOf_inj), (initOf ringCells ringToks, 1))

theorem u₀_split : (ownU u₀ : sProp 𝕄)
    ⊢ iprop(BI.own (EP (initOf (Pipeline.cells cfgs cellOf_inj) (Pipeline.launchToks cfgs cellOf_inj))) ∗ BI.own (ER (initOf ringCells ringToks))) :=
  BI.own_op_elim ((uEmb (nD := nD) (τ := τ) (sig := sig) (Ix := ℕ) (Val := Elt F) (Name := ℕ) (U := UU) (Lvl := ℕ)).toEmb.op_of_mem
    (Prod.mk_mem_op (URA.mem_op_one _) (URA.mem_one_op (initOf ringCells ringToks, (1 : Counters)))))

set_option maxRecDepth 8000 in
/-- From any memory with the semaphores at zero, every weakly fair run of the program on the four devices ends, and then
    on every device the arguments are as they were, the result is `out`, and every semaphore is at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O0) (howed₀ := fun _ => rfl) (howedN := fun _ => rfl)
    (L := L) (lv := lv) (hL := L_of_ne) (hwaits := waits m)
    (G := G m) (G' := G' m) (u₀ := u₀)
    (hu₀ := by
      iintro Hu
      ihave H := (u₀_split (F := F)) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := over m) (Z := fun _ => iprop(emp))
    (hX := start_intro m ρ) (hin := first_intro m) (hout := last_exit m)
    (QY := fun c s => Ends m c s ∧ ∀ sm : SemLoc sig, sm.isScoped .tc = false → s.sem ((c.tc : Thread nD τ), sm) = 0)
    (hY := over_read m)
    (hQ := fun _ h hs => ⟨fun c => (h c).2.2.1, sem_eq_zero hs fun c => (h c).2.2.2⟩)

end Cert.KernelIdeal.RingProof
-- ==== Proof.RingIdeal.Value.lean ====
/-
  The value the ring computes, over the reals: when each device holds its own rows of one left matrix, and all hold the
  same right matrix, the result of every device is the product of the two whole matrices.
-/
module

public import proofs.«01_k».proof.Proof.RingIdeal.Local
public import proofs.«01_k».proof.ReferenceIdeal
public import Idealize.ShloMosaic.Lib.MatmulPlain
public import Idealize.ShloMosaic.Lib.StackMember
public import Idealize.ShloMosaic.Lib.ValueIdx
public import Idealize.ShloMosaic.Lib.Layout
public import Idealize.ShloMosaic.Lib.Pipeline.Value

@[expose] public section

noncomputable section

namespace Cert.KernelIdeal.RingProof

open Cert.KernelIdeal Cert.KernelIdeal.Gen
open Idealize.ShloMosaic Idealize.ShloMosaic.ValueIdx

variable (m : (ℓ : Loc nD τ sig) → Buf (Elt Ideal) ℓ)

/-- Row `r` of half `b` of a device's left matrix is its row `1536 b + r`. -/
theorem aHalf_apply (b : Bool) (d : Dev nD) (r k : Fin 1536) :
    aHalf m b d (ix2 r k) = aV m d (ix2 (⟨1536 * b.toNat + r.val, by have := r.isLt; cases b <;> simp <;> omega⟩ : Fin 3072) k) := by
  refine congrArg (aV m d) (funext fun a => Fin.ext ?_)
  match a with
  | ⟨0, _⟩ => exact congrArg (1536 * b.toNat + ·) (Nat.one_mul r.val)
  | ⟨1, _⟩ => exact (Nat.zero_add _).trans (Nat.one_mul k.val)

/-- The tile a device sends, cast back to a matrix, is that half of its left matrix: narrowing changes no real. -/
theorem tile_cast (b : Bool) (d : Dev nD) :
    shapeCast S1536x1536 (tile m b d) shapeCasts_S1x1536x1536_S1536x1536 = truncf .bf16 (aHalf m b d) bitsLt_bf16_f32 := by
  unfold tile k0_pay4
  exact shapeCast_shapeCast (truncf .bf16 (aHalf m b d) bitsLt_bf16_f32) shapeCasts_S1536x1536_S1x1536x1536 shapeCasts_S1x1536x1536_S1536x1536

/-- Place `(r, s)` of the product of half `b` of device `d`'s rows by device `c`'s right matrix, as a sum. -/
theorem prod_apply (b : Bool) (d c : Dev nD) (r : Fin 1536) (s : Fin 3072) :
    prod m b d c (ix2 r s)
      = ∑ k : Fin 1536, aV m d (ix2 (⟨1536 * b.toNat + r.val, by have := r.isLt; cases b <;> simp <;> omega⟩ : Fin 3072) k) * bV m c (ix2 k s) := by
  unfold prod k0_pay7
  rw [shapeCast_self, tile_cast]
  refine (Ideal.matmul_plain_apply (M := 1536) (K := 1536) (N := 3072) none _ _ _ r s).trans ?_
  refine (congrArg (· + _) Ideal.ofBits_zero_f32).trans ((zero_add _).trans ?_)
  refine Finset.sum_congr rfl fun k _ => ?_
  exact congrArg (· * _) (aHalf_apply m b d r k)

/-- If every device holds block `c` of the rows of `A`, and the whole of `B`, then every device computes `A` times `B`. -/
theorem out_eq (A : FVec Ideal ⟨2, ![12288, 1536]⟩ .f32) (B : FVec Ideal ⟨2, ![1536, 3072]⟩ .f32)
    (hA : ∀ c : Dev nD, aV m c = Layout.block ⟨2, ![3072, 1536]⟩ ⟨2, ![12288, 1536]⟩ 0 4 c A) (hB : ∀ c : Dev nD, bV m c = B)
    (c : Dev nD) : out m c = Host.dotGeneral (DotDims.plain 12288 1536 3072) none A B := by
  funext y
  have hy : (y (0 : Fin 2)).val < 12288 := (y (0 : Fin 2)).isLt
  have e : out m c y = prod m (decide ((y (0 : Fin 2)).val / 1536 % 2 = 1)) ⟨(y (0 : Fin 2)).val / 1536 / 2, by show _ < 4; omega⟩ c
      (ix2 (⟨(y (0 : Fin 2)).val % 1536, Nat.mod_lt _ (by decide)⟩ : Fin 1536) (⟨(y (1 : Fin 2)).val, (y (1 : Fin 2)).isLt⟩ : Fin 3072)) := by
    unfold out outBlk
    refine congrArg _ (funext fun a => ?_)
    match a with
    | ⟨0, _⟩ => rfl
    | ⟨1, _⟩ => rfl
  rw [e, prod_apply]
  refine Eq.trans ?_ ((StackMember.dotGeneral_plain_apply (m := 12288) (k := 1536) (n := 3072) none A B (y (0 : Fin 2)) (y (1 : Fin 2))).symm.trans
    (congrArg _ (eq_ix2 y).symm))
  refine Finset.sum_congr rfl fun k _ => ?_
  rw [hA, hB, Layout.block_apply]
  refine congrArg (fun i => A i * _) (funext fun a => Fin.ext ?_)
  match a with
  | ⟨0, _⟩ =>
    show (y (0 : Fin 2)).val / 1536 / 2 * 3072 + (1536 * (decide ((y (0 : Fin 2)).val / 1536 % 2 = 1)).toNat + (y (0 : Fin 2)).val % 1536) = (y (0 : Fin 2)).val
    rcases Nat.mod_two_eq_zero_or_one ((y (0 : Fin 2)).val / 1536) with h | h <;> simp [h] <;> omega
  | ⟨1, _⟩ => rfl

end Cert.KernelIdeal.RingProof

end
-- ==== Proof.lean ====
/-
  The claim, assembled: the printed kernel and its idealization run and leave their arguments and the semaphores as
  they found them, so does the reference, and on every device the kernel's result is the reference's.
-/
module

public import proofs.«01_k».proof.Defs
public import proofs.«01_k».proof.Proof.RingPrinted.Launch
public import proofs.«01_k».proof.Proof.RingIdeal.Launch
public import proofs.«01_k».proof.Proof.RingIdeal.Value
public import proofs.«01_k».proof.Proof.Gen.ReferenceIdeal
public import proofs.«01_k».proof.Proof.Gen.ReferenceIdeal.Run

@[expose] public section

noncomputable section

namespace Cert.Proof

open Idealize.ShloMosaic Idealize.SL.Sem

/-- The printed kernel ends, its arguments unchanged and every semaphore back at zero. -/
theorem frame_kernel : Cert.quiescent_Kernel := fun m ρ _ =>
  (θ_run Cert.Kernel.defs _ _).mono (fun _ h => ⟨fun c => ⟨(h.1 c).1, (h.1 c).2.1⟩, h.2⟩)
    (Cert.Kernel.RingProof.run_main (F := Bits) m ρ)

/-- So does its idealization. -/
theorem frame_ideal : Cert.quiescent_KernelIdeal := fun m ρ _ =>
  (θ_run Cert.KernelIdeal.defs _ _).mono (fun _ h => ⟨fun c => ⟨(h.1 c).1, (h.1 c).2.1⟩, h.2⟩)
    (Cert.KernelIdeal.RingProof.run_main (F := Ideal) m ρ)

/-- The reference, a straight line of host operations with no semaphore, ends with its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- When the devices hold the blocks of rows of the reference's left matrix, and each its right matrix, every device
    ends with the reference's product. -/
theorem same_product : Cert.algebraic_KernelIdeal_ReferenceIdeal := by
  intro m ρ m' ρ' _ hag
  refine ⟨_, (θ_run Cert.KernelIdeal.defs _ _).mono (fun _ h c => ⟨(h.1 c).2.2.trans ?_, (h.1 c).1, (h.1 c).2.1⟩)
      (Cert.KernelIdeal.RingProof.run_main (F := Ideal) m ρ),
    (θ_run Cert.ReferenceIdeal.defs _ _).mono (fun _ h => h 0) (Cert.ReferenceIdeal.Value.run (F := Ideal) m' ρ')⟩
  exact Cert.KernelIdeal.RingProof.out_eq m _ _ (fun c => (hag c).1) (fun c => (hag c).2) c

/-- Everything the certificate claims. -/
theorem claim : Cert.Claim :=
  ⟨Cert.Kernel.Gen.facts, Cert.KernelIdeal.Gen.facts, Cert.ReferenceIdeal.Gen.facts,
    frame_kernel, frame_ideal, frame_reference, trivial, same_product⟩

end Cert.Proof

end
